-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_tame [hPre_positions_tame : Cert.Pre_positions_tame.Facts] (m : (ℓ : Loc Cert.KernelIdeal.nD Cert.KernelIdeal.τ Cert.KernelIdeal.sig) → Buf (Elt Ideal) ℓ) : Prop :=
  ∀ c : Dev Cert.KernelIdeal.nD,
    (Cert.Pre_positions_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_tame [hPre_positions_tame : Cert.Pre_positions_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_WordsIdeal (m : (ℓ : Loc Cert.WordsIdeal.nD Cert.WordsIdeal.τ Cert.WordsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_positions_tame [hKernelIdeal : Cert.KernelIdeal.Facts] [hPre_positions_tame : Cert.Pre_positions_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_positions_tame [hReferenceIdeal : Cert.ReferenceIdeal.Facts] [hPre_positions_tame : Cert.Pre_positions_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ r.2.sem = fun _ => 0)

def quiescent_WordsIdeal [hWordsIdeal : Cert.WordsIdeal.Facts] : Prop :=
  ∀ (m : (ℓ : Loc Cert.WordsIdeal.nD Cert.WordsIdeal.τ Cert.WordsIdeal.sig) → Buf (Elt Ideal) ℓ) (g : Dev Cert.WordsIdeal.nD → PrngReg), Pre_WordsIdeal m →
    θ_run (Cert.WordsIdeal.defs (F := Ideal)) (onTc (τ := Cert.WordsIdeal.τ) (Cert.WordsIdeal.main (F := Ideal))) ⟨m, fun _ => 0, g⟩ (fun r => (∀ c : Dev Cert.WordsIdeal.nD,
      r.2.mem ((c.tc : Thread Cert.WordsIdeal.nD Cert.WordsIdeal.τ).loc Cert.WordsIdeal.main_arg0) = m ((c.tc : Thread Cert.WordsIdeal.nD Cert.WordsIdeal.τ).loc Cert.WordsIdeal.main_arg0))
      ∧ r.2.sem = fun _ => 0)

def preserves_Kernel_KernelIdeal : Prop :=
  IdealRules.bf16_pair.PackStatement Cert.KernelIdeal.S8x128
  ∧ IdealRules.bf16_pair.Statement Cert.KernelIdeal.S16x128 Cert.KernelIdeal.S8x128

def algebraic_KernelIdeal_ReferenceIdeal_pre_positions_tame [hKernelIdeal : Cert.KernelIdeal.Facts] [hReferenceIdeal : Cert.ReferenceIdeal.Facts] [hPre_positions_tame : Cert.Pre_positions_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Pack_PackIdeal : Prop :=
  True

def algebraic_PackIdeal_WordsIdeal [hPackIdeal : Cert.PackIdeal.Facts] [hWordsIdeal : Cert.WordsIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.WordsIdeal.nD Cert.WordsIdeal.τ Cert.WordsIdeal.sig) → Buf (Elt Ideal) ℓ) (g' : Dev Cert.WordsIdeal.nD → PrngReg), Pre_PackIdeal m →
    (∀ c : Dev Cert.PackIdeal.nD,
      m' ((c.tc : Thread Cert.WordsIdeal.nD Cert.WordsIdeal.τ).loc Cert.WordsIdeal.main_arg0) = m ((c.tc : Thread Cert.PackIdeal.nD Cert.PackIdeal.τ).loc Cert.PackIdeal.main_arg0)) →
    ∃ (v0 : (c : Dev Cert.PackIdeal.nD) → Buf (Elt Ideal) ((c.tc : Thread Cert.PackIdeal.nD Cert.PackIdeal.τ).loc Cert.PackIdeal.main_v1)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v1) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ θ_run (Cert.WordsIdeal.defs (F := Ideal)) (onTc (τ := Cert.WordsIdeal.τ) (Cert.WordsIdeal.main (F := Ideal))) ⟨m', fun _ => 0, g'⟩ (fun r => ∀ c : Dev Cert.WordsIdeal.nD,
          r.2.mem ((c.tc : Thread Cert.WordsIdeal.nD Cert.WordsIdeal.τ).loc Cert.WordsIdeal.main_v20) = v0 c
          ∧ r.2.mem ((c.tc : Thread Cert.WordsIdeal.nD Cert.WordsIdeal.τ).loc Cert.WordsIdeal.main_arg0) = m' ((c.tc : Thread Cert.WordsIdeal.nD Cert.WordsIdeal.τ).loc Cert.WordsIdeal.main_arg0))

def Claim : Prop :=
  ∃ (hKernel : Cert.Kernel.Facts) (hKernelIdeal : Cert.KernelIdeal.Facts) (hReferenceIdeal : Cert.ReferenceIdeal.Facts) (hPack : Cert.Pack.Facts) (hPackIdeal : Cert.PackIdeal.Facts) (hWordsIdeal : Cert.WordsIdeal.Facts) (hPre_positions_tame : Cert.Pre_positions_tame.Facts),
    quiescent_Kernel (hKernel := hKernel)
    ∧ quiescent_KernelIdeal (hKernelIdeal := hKernelIdeal)
    ∧ quiescent_KernelIdeal_pre_positions_tame (hKernelIdeal := hKernelIdeal) (hPre_positions_tame := hPre_positions_tame)
    ∧ quiescent_ReferenceIdeal (hReferenceIdeal := hReferenceIdeal)
    ∧ quiescent_ReferenceIdeal_pre_positions_tame (hReferenceIdeal := hReferenceIdeal) (hPre_positions_tame := hPre_positions_tame)
    ∧ quiescent_Pack (hPack := hPack)
    ∧ quiescent_PackIdeal (hPackIdeal := hPackIdeal)
    ∧ quiescent_WordsIdeal (hWordsIdeal := hWordsIdeal)
    ∧ preserves_Kernel_KernelIdeal
    ∧ algebraic_KernelIdeal_ReferenceIdeal_pre_positions_tame (hKernelIdeal := hKernelIdeal) (hReferenceIdeal := hReferenceIdeal) (hPre_positions_tame := hPre_positions_tame)
    ∧ preserves_Pack_PackIdeal
    ∧ algebraic_PackIdeal_WordsIdeal (hPackIdeal := hPackIdeal) (hWordsIdeal := hWordsIdeal)
-- ==== Pre_positions_tame.lean ====
abbrev S48x20480x3 : Shape := ⟨3, ![48, 20480, 3]⟩
abbrev S8x2x7680x8x128 : Shape := ⟨5, ![8, 2, 7680, 8, 128]⟩
abbrev S16 : Shape := ⟨1, ![16]⟩
abbrev S_ : Shape := ⟨0, ![]⟩

class Facts : Prop where
  bcast_S_S48x20480x3 : S_.BroadcastsInDim S48x20480x3 (![] : Fin 0 → Fin S48x20480x3.rank)

variable [Facts]

def fn {F : FTy → Type} [FloatOps F] (main_arg0 : FVec F S48x20480x3 .f32) (main_arg1 : IVec S8x2x7680x8x128 32) (main_arg2 : FVec F S16 .f32) : IVec S48x20480x3 1 :=
  let main_cst : FVec F S_ .f32 := constant S_ .f32 0xC9000000#32
  let main_v0 : FVec F S48x20480x3 .f32 := broadcastInDim S48x20480x3 ![] bcast_S_S48x20480x3 main_cst
  let main_v1 : IVec S48x20480x3 1 := cmpf .oge main_arg0 main_v0
  let main_cst_0 : FVec F S_ .f32 := constant S_ .f32 0x7F800000#32
  let main_v2 : FVec F S48x20480x3 .f32 := broadcastInDim S48x20480x3 ![] bcast_S_S48x20480x3 main_cst_0
  let main_v3 : IVec S48x20480x3 1 := cmpf .olt main_arg0 main_v2
  let main_v4 : IVec S48x20480x3 1 := andi main_v1 main_v3
  main_v4
-- ==== Kernel.lean ====
abbrev S48x20480x3 : Shape := ⟨3, ![48, 20480, 3]⟩
abbrev S8x2x7680x8x128 : Shape := ⟨5, ![8, 2, 7680, 8, 128]⟩
abbrev S16 : Shape := ⟨1, ![16]⟩
abbrev S3x48x20480 : Shape := ⟨3, ![3, 48, 20480]⟩
abbrev S3x6x8x160x128 : Shape := ⟨5, ![3, 6, 8, 160, 128]⟩
abbrev S3x6x160x8x128 : Shape := ⟨5, ![3, 6, 160, 8, 128]⟩
abbrev S16x1 : Shape := ⟨2, ![16, 1]⟩
abbrev S16x128 : Shape := ⟨2, ![16, 128]⟩
abbrev S48x32x20480 : Shape := ⟨3, ![48, 32, 20480]⟩
abbrev S48x3x32x20480 : Shape := ⟨4, ![48, 3, 32, 20480]⟩
abbrev S3x1x4x8x128 : Shape := ⟨5, ![3, 1, 4, 8, 128]⟩
abbrev S8x2x32x8x128 : Shape := ⟨5, ![8, 2, 32, 8, 128]⟩
abbrev S8x32x512 : Shape := ⟨3, ![8, 32, 512]⟩
abbrev S8x3x32x512 : Shape := ⟨4, ![8, 3, 32, 512]⟩
abbrev S8x128 : Shape := ⟨2, ![8, 128]⟩
abbrev S1x1x1x1x128 : Shape := ⟨5, ![1, 1, 1, 1, 128]⟩
abbrev S1x128 : Shape := ⟨2, ![1, 128]⟩
abbrev S1x1x1x8x128 : Shape := ⟨5, ![1, 1, 1, 8, 128]⟩
abbrev S1x16x128 : Shape := ⟨3, ![1, 16, 128]⟩
abbrev S1x1x16x128 : Shape := ⟨4, ![1, 1, 16, 128]⟩
abbrev S48x20480x32 : Shape := ⟨3, ![48, 20480, 32]⟩
abbrev S48x20480x3x32 : Shape := ⟨4, ![48, 20480, 3, 32]⟩

abbrev nBuf : Space → Nat
  | .hbm => 21
  | .vmem => 12
  | .smem => 0
  | _ => 0

abbrev bufTy : (tb : Table) → Fin (tcTables nBuf tb) → BufTy
  | .hbm, ⟨0, _⟩ => ⟨S48x20480x3, .f32⟩
  | .hbm, ⟨1, _⟩ => ⟨S8x2x7680x8x128, .i32⟩
  | .hbm, ⟨2, _⟩ => ⟨S16, .f32⟩
  | .hbm, ⟨3, _⟩ => ⟨S16, .f32⟩
  | .hbm, ⟨4, _⟩ => ⟨S16, .i32⟩
  | .hbm, ⟨5, _⟩ => ⟨S16, .i32⟩
  | .hbm, ⟨6, _⟩ => ⟨S3x48x20480, .f32⟩
  | .hbm, ⟨7, _⟩ => ⟨S3x6x8x160x128, .f32⟩
  | .hbm, ⟨8, _⟩ => ⟨S3x6x160x8x128, .f32⟩
  | .hbm, ⟨9, _⟩ => ⟨S16x1, .f32⟩
  | .hbm, ⟨10, _⟩ => ⟨S16x128, .f32⟩
  | .hbm, ⟨11, _⟩ => ⟨S16x1, .f32⟩
  | .hbm, ⟨12, _⟩ => ⟨S16x128, .f32⟩
  | .hbm, ⟨13, _⟩ => ⟨S16x1, .i32⟩
  | .hbm, ⟨14, _⟩ => ⟨S16x128, .i32⟩
  | .hbm, ⟨15, _⟩ => ⟨S16x1, .i32⟩
  | .hbm, ⟨16, _⟩ => ⟨S16x128, .i32⟩
  | .hbm, ⟨17, _⟩ => ⟨S48x32x20480, .bf16⟩
  | .hbm, ⟨18, _⟩ => ⟨S48x3x32x20480, .bf16⟩
  | .hbm, ⟨19, _⟩ => ⟨S48x20480x32, .bf16⟩
  | .hbm, ⟨20, _⟩ => ⟨S48x20480x3x32, .bf16⟩
  | .local _ .vmem, ⟨0, _⟩ => ⟨S3x1x4x8x128, .f32⟩
  | .local _ .vmem, ⟨1, _⟩ => ⟨S3x1x4x8x128, .f32⟩
  | .local _ .vmem, ⟨2, _⟩ => ⟨S8x2x32x8x128, .i32⟩
  | .local _ .vmem, ⟨3, _⟩ => ⟨S8x2x32x8x128, .i32⟩
  | .local _ .vmem, ⟨4, _⟩ => ⟨S16x128, .f32⟩
  | .local _ .vmem, ⟨5, _⟩ => ⟨S16x128, .f32⟩
  | .local _ .vmem, ⟨6, _⟩ => ⟨S16x128, .i32⟩
  | .local _ .vmem, ⟨7, _⟩ => ⟨S16x128, .i32⟩
  | .local _ .vmem, ⟨8, _⟩ => ⟨S8x32x512, .bf16⟩
  | .local _ .vmem, ⟨9, _⟩ => ⟨S8x32x512, .bf16⟩
  | .local _ .vmem, ⟨10, _⟩ => ⟨S8x3x32x512, .bf16⟩
  | .local _ .vmem, ⟨11, _⟩ => ⟨S8x3x32x512, .bf16⟩
  | _, _ => ⟨S48x20480x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [BitOps F]

abbrev grid0 : Pipeline.Grid := ⟨2, ![6, 40], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S3x1x4x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2x32x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x3x32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F]
-- ==== ReferenceIdeal.lean ====
abbrev S48x20480x3 : Shape := ⟨3, ![48, 20480, 3]⟩
abbrev S8x2x7680x8x128 : Shape := ⟨5, ![8, 2, 7680, 8, 128]⟩
abbrev S16 : Shape := ⟨1, ![16]⟩
abbrev S8x3 : Shape := ⟨2, ![8, 3]⟩
abbrev S2x8x8x7680x128 : Shape := ⟨5, ![2, 8, 8, 7680, 128]⟩
abbrev S16x8x6x160x8x128 : Shape := ⟨6, ![16, 8, 6, 160, 8, 128]⟩
abbrev S16x8x6x8x160x128 : Shape := ⟨6, ![16, 8, 6, 8, 160, 128]⟩
abbrev S16x8x48x20480 : Shape := ⟨4, ![16, 8, 48, 20480]⟩
abbrev S3x48x20480 : Shape := ⟨3, ![3, 48, 20480]⟩
abbrev S16x1x1x1 : Shape := ⟨4, ![16, 1, 1, 1]⟩
abbrev S1x3x48x20480 : Shape := ⟨4, ![1, 3, 48, 20480]⟩
abbrev S16x3x48x20480 : Shape := ⟨4, ![16, 3, 48, 20480]⟩
abbrev S_ : Shape := ⟨0, ![]⟩
abbrev S1x8x3x1x1 : Shape := ⟨5, ![1, 8, 3, 1, 1]⟩
abbrev S16x1x3x48x20480 : Shape := ⟨5, ![16, 1, 3, 48, 20480]⟩
abbrev S16x8x3x48x20480 : Shape := ⟨5, ![16, 8, 3, 48, 20480]⟩
abbrev S16x8x1x48x20480 : Shape := ⟨5, ![16, 8, 1, 48, 20480]⟩
abbrev S16x1x1 : Shape := ⟨3, ![16, 1, 1]⟩
abbrev S16x48x20480 : Shape := ⟨3, ![16, 48, 20480]⟩
abbrev S16x48x20480x1 : Shape := ⟨4, ![16, 48, 20480, 1]⟩
abbrev S16x48x20480x2 : Shape := ⟨4, ![16, 48, 20480, 2]⟩
abbrev S48x20480x16x2 : Shape := ⟨4, ![48, 20480, 16, 2]⟩
abbrev S48x20480x32 : Shape := ⟨3, ![48, 20480, 32]⟩
abbrev S16x3x48x20480x1 : Shape := ⟨5, ![16, 3, 48, 20480, 1]⟩
abbrev S16x3x48x20480x2 : Shape := ⟨5, ![16, 3, 48, 20480, 2]⟩
abbrev S48x20480x3x16x2 : Shape := ⟨5, ![48, 20480, 3, 16, 2]⟩
abbrev S48x20480x3x32 : Shape := ⟨4, ![48, 20480, 3, 32]⟩

abbrev nBuf : Space → Nat
  | .hbm => 165
  | .vmem => 0
  | .smem => 0
  | _ => 0

abbrev hbmTy0_0 (i : Nat) : BufTy := match i % 128 with
  | 0 => ⟨S48x20480x3, .f32⟩
  | 1 => ⟨S8x2x7680x8x128, .i32⟩
  | 2 => ⟨S16, .f32⟩
  | 3 => ⟨S16, .f32⟩
  | 4 => ⟨S8x3, .i32⟩
  | 5 => ⟨S16, .i32⟩
  | 6 => ⟨S16, .i1⟩
  | 7 => ⟨S16, .f32⟩
  | 8 => ⟨S2x8x8x7680x128, .i32⟩
  | 9 => ⟨S16x8x6x160x8x128, .i32⟩
  | 10 => ⟨S16x8x6x8x160x128, .i32⟩
  | 11 => ⟨S16x8x48x20480, .i32⟩
  | 12 => ⟨S3x48x20480, .f32⟩
  | 13 => ⟨S16x1x1x1, .f32⟩
  | 14 => ⟨S1x3x48x20480, .f32⟩
  | 15 => ⟨S16x3x48x20480, .f32⟩
  | 16 => ⟨S16x3x48x20480, .f32⟩
  | 17 => ⟨S16x3x48x20480, .f32⟩
  | 18 => ⟨S16x3x48x20480, .f32⟩
  | 19 => ⟨S_, .f32⟩
  | 20 => ⟨S16x1x1x1, .f32⟩
  | 21 => ⟨S16x1x1x1, .f32⟩
  | 22 => ⟨S16x3x48x20480, .f32⟩
  | 23 => ⟨S16x3x48x20480, .f32⟩
  | 24 => ⟨S16x3x48x20480, .i32⟩
  | 25 => ⟨S16x3x48x20480, .f32⟩
  | 26 => ⟨S16x3x48x20480, .f32⟩
  | 27 => ⟨S1x8x3x1x1, .i32⟩
  | 28 => ⟨S16x1x3x48x20480, .i32⟩
  | 29 => ⟨S16x8x3x48x20480, .i32⟩
  | 30 => ⟨S16x8x3x48x20480, .i32⟩
  | 31 => ⟨S16x8x3x48x20480, .i32⟩
  | 32 => ⟨S16x1x1x1, .i32⟩
  | 33 => ⟨S16x8x1x48x20480, .i32⟩
  | 34 => ⟨S16x8x48x20480, .i32⟩
  | 35 => ⟨S16x8x1x48x20480, .i32⟩
  | 36 => ⟨S16x8x48x20480, .i32⟩
  | 37 => ⟨S16x8x1x48x20480, .i32⟩
  | 38 => ⟨S16x8x48x20480, .i32⟩
  | 39 => ⟨S16x8x48x20480, .i32⟩
  | 40 => ⟨S16x8x48x20480, .i32⟩
  | 41 => ⟨S16x8x48x20480, .i32⟩
  | 42 => ⟨S16x8x48x20480, .i32⟩
  | 43 => ⟨S16x8x48x20480, .i32⟩
  | 44 => ⟨S16x8x48x20480, .i32⟩
  | 45 => ⟨S16x8x3x48x20480, .i32⟩
  | 46 => ⟨S16x8x1x48x20480, .i32⟩
  | 47 => ⟨S16x8x48x20480, .i32⟩
  | 48 => ⟨S_, .i32⟩
  | 49 => ⟨S16x8x48x20480, .i32⟩
  | 50 => ⟨S16x8x48x20480, .i32⟩
  | 51 => ⟨S16x8x1x48x20480, .i32⟩
  | 52 => ⟨S16x8x48x20480, .i32⟩
  | 53 => ⟨S_, .i32⟩
  | 54 => ⟨S16x8x48x20480, .i32⟩
  | 55 => ⟨S16x8x48x20480, .i32⟩
  | 56 => ⟨S16x8x48x20480, .i32⟩
  | 57 => ⟨S16x8x1x48x20480, .i32⟩
  | 58 => ⟨S16x8x48x20480, .i32⟩
  | 59 => ⟨S_, .i32⟩
  | 60 => ⟨S16x8x48x20480, .i32⟩
  | 61 => ⟨S16x8x48x20480, .i32⟩
  | 62 => ⟨S16x8x48x20480, .i32⟩
  | 63 => ⟨S_, .i32⟩
  | 64 => ⟨S16x8x48x20480, .i32⟩
  | 65 => ⟨S16x8x48x20480, .i32⟩
  | 66 => ⟨S16x8x48x20480, .i32⟩
  | 67 => ⟨S16x1x1x1, .i1⟩
  | 68 => ⟨S16x8x48x20480, .i1⟩
  | 69 => ⟨S16x8x48x20480, .i32⟩
  | 70 => ⟨S_, .i32⟩
  | 71 => ⟨S16x8x48x20480, .i32⟩
  | 72 => ⟨S16x8x48x20480, .i32⟩
  | 73 => ⟨S_, .i32⟩
  | 74 => ⟨S16x8x48x20480, .i32⟩
  | 75 => ⟨S16x8x48x20480, .i32⟩
  | 76 => ⟨S16x8x48x20480, .i32⟩
  | 77 => ⟨S_, .i32⟩
  | 78 => ⟨S16x8x48x20480, .i32⟩
  | 79 => ⟨S16x8x48x20480, .i32⟩
  | 80 => ⟨S_, .i32⟩
  | 81 => ⟨S16x8x48x20480, .i32⟩
  | 82 => ⟨S16x8x48x20480, .i32⟩
  | 83 => ⟨S16x8x48x20480, .f32⟩
  | 84 => ⟨S_, .i32⟩
  | 85 => ⟨S16x8x48x20480, .i32⟩
  | 86 => ⟨S16x8x48x20480, .i32⟩
  | 87 => ⟨S_, .i32⟩
  | 88 => ⟨S16x8x48x20480, .i32⟩
  | 89 => ⟨S16x8x48x20480, .i32⟩
  | 90 => ⟨S16x8x48x20480, .f32⟩
  | 91 => ⟨S_, .i32⟩
  | 92 => ⟨S1x8x3x1x1, .i32⟩
  | 93 => ⟨S1x8x3x1x1, .i1⟩
  | 94 => ⟨S16x1x3x48x20480, .f32⟩
  | 95 => ⟨S16x1x3x48x20480, .f32⟩
  | 96 => ⟨S_, .f32⟩
  | 97 => ⟨S16x1x3x48x20480, .f32⟩
  | 98 => ⟨S16x1x3x48x20480, .f32⟩
  | 99 => ⟨S16x8x3x48x20480, .i1⟩
  | 100 => ⟨S16x8x3x48x20480, .f32⟩
  | 101 => ⟨S16x8x3x48x20480, .f32⟩
  | 102 => ⟨S16x8x3x48x20480, .f32⟩
  | 103 => ⟨S16x8x1x48x20480, .f32⟩
  | 104 => ⟨S16x8x48x20480, .f32⟩
  | 105 => ⟨S16x8x1x48x20480, .f32⟩
  | 106 => ⟨S16x8x48x20480, .f32⟩
  | 107 => ⟨S16x8x1x48x20480, .f32⟩
  | 108 => ⟨S16x8x48x20480, .f32⟩
  | 109 => ⟨S16x8x48x20480, .f32⟩
  | 110 => ⟨S16x8x48x20480, .f32⟩
  | 111 => ⟨S_, .i32⟩
  | 112 => ⟨S1x8x3x1x1, .i32⟩
  | 113 => ⟨S1x8x3x1x1, .i32⟩
  | 114 => ⟨S_, .i32⟩
  | 115 => ⟨S1x8x3x1x1, .i32⟩
  | 116 => ⟨S1x8x3x1x1, .i32⟩
  | 117 => ⟨S1x8x3x1x1, .f32⟩
  | 118 => ⟨S16x8x48x20480, .f32⟩
  | 119 => ⟨S16x8x48x20480, .f32⟩
  | 120 => ⟨S16x8x1x48x20480, .f32⟩
  | 121 => ⟨S16x8x1x48x20480, .f32⟩
  | 122 => ⟨S16x8x1x48x20480, .f32⟩
  | 123 => ⟨S16x8x3x48x20480, .f32⟩
  | 124 => ⟨S16x8x3x48x20480, .f32⟩
  | 125 => ⟨S16x8x3x48x20480, .f32⟩
  | 126 => ⟨S16x1x1, .f32⟩
  | 127 => ⟨S16, .f32⟩
  | _ => ⟨S48x20480x3, .f32⟩

abbrev hbmTy0_1 (i : Nat) : BufTy := match i % 128 with
  | 0 => ⟨S16x1x1x1, .f32⟩
  | 1 => ⟨S16x8x48x20480, .f32⟩
  | 2 => ⟨S_, .f32⟩
  | 3 => ⟨S16x48x20480, .f32⟩
  | 4 => ⟨S16x48x20480, .f32⟩
  | 5 => ⟨S16x48x20480, .f32⟩
  | 6 => ⟨S16x8x48x20480, .f32⟩
  | 7 => ⟨S_, .f32⟩
  | 8 => ⟨S16x48x20480, .f32⟩
  | 9 => ⟨S16x48x20480, .f32⟩
  | 10 => ⟨S16x48x20480, .f32⟩
  | 11 => ⟨S16x8x1x48x20480, .f32⟩
  | 12 => ⟨S16x8x3x48x20480, .f32⟩
  | 13 => ⟨S16x8x3x48x20480, .f32⟩
  | 14 => ⟨S_, .f32⟩
  | 15 => ⟨S16x3x48x20480, .f32⟩
  | 16 => ⟨S16x3x48x20480, .f32⟩
  | 17 => ⟨S16x3x48x20480, .f32⟩
  | 18 => ⟨S16x8x1x48x20480, .f32⟩
  | 19 => ⟨S16x8x3x48x20480, .f32⟩
  | 20 => ⟨S16x8x3x48x20480, .f32⟩
  | 21 => ⟨S_, .f32⟩
  | 22 => ⟨S16x3x48x20480, .f32⟩
  | 23 => ⟨S16x3x48x20480, .f32⟩
  | 24 => ⟨S16x3x48x20480, .f32⟩
  | 25 => ⟨S16x48x20480x1, .f32⟩
  | 26 => ⟨S16x48x20480x1, .f32⟩
  | 27 => ⟨S16x48x20480x2, .f32⟩
  | 28 => ⟨S16x48x20480x2, .bf16⟩
  | 29 => ⟨S48x20480x16x2, .bf16⟩
  | 30 => ⟨S48x20480x32, .bf16⟩
  | 31 => ⟨S16x3x48x20480x1, .f32⟩
  | 32 => ⟨S16x3x48x20480x1, .f32⟩
  | 33 => ⟨S16x3x48x20480x2, .f32⟩
  | 34 => ⟨S16x3x48x20480x2, .bf16⟩
  | 35 => ⟨S48x20480x3x16x2, .bf16⟩
  | 36 => ⟨S48x20480x3x32, .bf16⟩
  | _ => ⟨S48x20480x3, .f32⟩

abbrev hbmTy (i : Nat) : BufTy := match i / 128 with
  | 0 => hbmTy0_0 i
  | 1 => hbmTy0_1 i
  | _ => ⟨S48x20480x3, .f32⟩

abbrev bufTy : (tb : Table) → Fin (tcTables nBuf tb) → BufTy
  | .hbm, ⟨i, _⟩ => hbmTy i
  | _, _ => ⟨S48x20480x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_call0_v0 : Ref sig .tc := ⟨.hbm, 68, rfl⟩
abbrev main_v55 : Ref sig .tc := ⟨.hbm, 69, rfl⟩
abbrev main_c_8 : Ref sig .tc := ⟨.hbm, 70, rfl⟩
abbrev main_v56 : Ref sig .tc := ⟨.hbm, 71, rfl⟩
abbrev main_v57 : Ref sig .tc := ⟨.hbm, 72, rfl⟩
abbrev main_c_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_10 : Ref sig .tc := ⟨.hbm, 77, rfl⟩
abbrev main_v61 : Ref sig .tc := ⟨.hbm, 78, rfl⟩
abbrev main_v62 : Ref sig .tc := ⟨.hbm, 79, rfl⟩
abbrev main_c_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_12 : Ref sig .tc := ⟨.hbm, 84, rfl⟩
abbrev main_v66 : Ref sig .tc := ⟨.hbm, 85, rfl⟩
abbrev main_v67 : Ref sig .tc := ⟨.hbm, 86, rfl⟩
abbrev main_c_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_16 : Ref sig .tc := ⟨.hbm, 111, rfl⟩
abbrev main_v86 : Ref sig .tc := ⟨.hbm, 112, rfl⟩
abbrev main_v87 : Ref sig .tc := ⟨.hbm, 113, rfl⟩
abbrev main_c_17 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_18 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_19 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_20 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_21 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩

abbrev nD : Nat := 1
abbrev τ : Topo := Topo.v7x

variable {F : FTy → Type} [FloatOps F]
-- ==== Pack.lean ====
abbrev S16x1048576x2 : Shape := ⟨3, ![16, 1048576, 2]⟩
abbrev S2x16x1048576 : Shape := ⟨3, ![2, 16, 1048576]⟩
abbrev S16x4096x128 : Shape := ⟨3, ![16, 4096, 128]⟩
abbrev S2x16x16384 : Shape := ⟨3, ![2, 16, 16384]⟩
abbrev S16x64x128 : Shape := ⟨3, ![16, 64, 128]⟩
abbrev S256x256 : Shape := ⟨2, ![256, 256]⟩
abbrev S1x16x16384 : Shape := ⟨3, ![1, 16, 16384]⟩
abbrev S16x16384 : Shape := ⟨2, ![16, 16384]⟩
abbrev S16x256 : Shape := ⟨2, ![16, 256]⟩
abbrev S16x128 : Shape := ⟨2, ![16, 128]⟩
abbrev S16x1x128 : Shape := ⟨3, ![16, 1, 128]⟩

abbrev nBuf : Space → Nat
  | .hbm => 3
  | .vmem => 4
  | .smem => 0
  | _ => 0

abbrev bufTy : (tb : Table) → Fin (tcTables nBuf tb) → BufTy
  | .hbm, ⟨0, _⟩ => ⟨S16x1048576x2, .i8⟩
  | .hbm, ⟨1, _⟩ => ⟨S2x16x1048576, .i8⟩
  | .hbm, ⟨2, _⟩ => ⟨S16x4096x128, .i32⟩
  | .local _ .vmem, ⟨0, _⟩ => ⟨S2x16x16384, .i8⟩
  | .local _ .vmem, ⟨1, _⟩ => ⟨S2x16x16384, .i8⟩
  | .local _ .vmem, ⟨2, _⟩ => ⟨S16x64x128, .i32⟩
  | .local _ .vmem, ⟨3, _⟩ => ⟨S16x64x128, .i32⟩
  | _, _ => ⟨S16x1048576x2, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x16x16384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== WordsIdeal.lean ====
abbrev S16x1048576x2 : Shape := ⟨3, ![16, 1048576, 2]⟩
abbrev S_ : Shape := ⟨0, ![]⟩
abbrev S16x4096x128x4 : Shape := ⟨4, ![16, 4096, 128, 4]⟩
abbrev S16x4096x128x1 : Shape := ⟨4, ![16, 4096, 128, 1]⟩
abbrev S16x4096x128 : Shape := ⟨3, ![16, 4096, 128]⟩

abbrev nBuf : Space → Nat
  | .hbm => 26
  | .vmem => 0
  | .smem => 0
  | _ => 0

abbrev bufTy : (tb : Table) → Fin (tcTables nBuf tb) → BufTy
  | .hbm, ⟨0, _⟩ => ⟨S16x1048576x2, .i8⟩
  | .hbm, ⟨1, _⟩ => ⟨S16x1048576x2, .i32⟩
  | .hbm, ⟨2, _⟩ => ⟨S_, .i32⟩
  | .hbm, ⟨3, _⟩ => ⟨S16x1048576x2, .i32⟩
  | .hbm, ⟨4, _⟩ => ⟨S16x1048576x2, .i32⟩
  | .hbm, ⟨5, _⟩ => ⟨S16x4096x128x4, .i32⟩
  | .hbm, ⟨6, _⟩ => ⟨S16x4096x128x1, .i32⟩
  | .hbm, ⟨7, _⟩ => ⟨S16x4096x128, .i32⟩
  | .hbm, ⟨8, _⟩ => ⟨S16x4096x128x1, .i32⟩
  | .hbm, ⟨9, _⟩ => ⟨S16x4096x128, .i32⟩
  | .hbm, ⟨10, _⟩ => ⟨S16x4096x128x1, .i32⟩
  | .hbm, ⟨11, _⟩ => ⟨S16x4096x128, .i32⟩
  | .hbm, ⟨12, _⟩ => ⟨S16x4096x128x1, .i32⟩
  | .hbm, ⟨13, _⟩ => ⟨S16x4096x128, .i32⟩
  | .hbm, ⟨14, _⟩ => ⟨S_, .i32⟩
  | .hbm, ⟨15, _⟩ => ⟨S16x4096x128, .i32⟩
  | .hbm, ⟨16, _⟩ => ⟨S16x4096x128, .i32⟩
  | .hbm, ⟨17, _⟩ => ⟨S16x4096x128, .i32⟩
  | .hbm, ⟨18, _⟩ => ⟨S_, .i32⟩
  | .hbm, ⟨19, _⟩ => ⟨S16x4096x128, .i32⟩
  | .hbm, ⟨20, _⟩ => ⟨S16x4096x128, .i32⟩
  | .hbm, ⟨21, _⟩ => ⟨S16x4096x128, .i32⟩
  | .hbm, ⟨22, _⟩ => ⟨S_, .i32⟩
  | .hbm, ⟨23, _⟩ => ⟨S16x4096x128, .i32⟩
  | .hbm, ⟨24, _⟩ => ⟨S16x4096x128, .i32⟩
  | .hbm, ⟨25, _⟩ => ⟨S16x4096x128, .i32⟩
  | _, _ => ⟨S16x1048576x2, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Proof.Unit.lean ====
/- What the interpolation body computes for one group of eight levels, one tile of 128 points and one batch row: one
   definition with the group, the tile and the row as parameters. The body's 64 repetitions are this definition at 64
   arguments (Pieces.lean). Names: `lg` the level group, `st` the tile, `b` the batch row inside its block of eight. -/
module

public import proofs.«01_k».proof.Proof.Gen.KernelIdeal.Frame

@[expose] public section

set_option maxRecDepth 16384

noncomputable section

namespace Cert.KernelIdeal.Interp

open Idealize.ShloMosaic Cert.KernelIdeal

variable {F : FTy → Type} [FloatOps F]

/-! ## The rectangles -/

/-- The eight rows of level group `lg` in a table of one row per level. -/
abbrev rowRect (lg : Fin 2) : Rect S16x128 :=
  Rect.unit (s := S16x128) ![8 * lg.val, 0] S8x128.size (by
    intro a; fin_cases a <;> simp [Shape.size] <;> omega)

/-- Coordinate `a` of the 128 points of tile `st`, batch row `b`. -/
abbrev xRect (a : Fin 3) (st : Fin 4) (b : Fin 8) : Rect S3x1x4x8x128 :=
  Rect.unit (s := S3x1x4x8x128) ![a.val, 0, st.val, b.val, 0] S1x1x1x1x128.size (by
    intro a; fin_cases a <;> simp [Shape.size] <;> omega)

/-- The fetched words of corner `c`. -/
abbrev gRect (c : Fin 8) (lg : Fin 2) (st : Fin 4) (b : Fin 8) : Rect S8x2x32x8x128 :=
  Rect.unit (s := S8x2x32x8x128) ![c.val, lg.val, st.val * 8 + b.val, 0, 0] S1x1x1x8x128.size (by
    intro a; fin_cases a <;> simp [Shape.size] <;> omega)

/-- Where the encoding of `lg`, `st`, `b` is stored. -/
abbrev encRect (lg : Fin 2) (st : Fin 4) (b : Fin 8) : Rect S8x32x512 :=
  Rect.unit (s := S8x32x512) ![b.val, 16 * lg.val, 128 * st.val] S1x16x128.size (by
    intro a; fin_cases a <;> simp [Shape.size] <;> omega)

/-- Where the derivative along axis `a` is stored. -/
abbrev gradRect (lg : Fin 2) (st : Fin 4) (b : Fin 8) (a : Fin 3) : Rect S8x3x32x512 :=
  Rect.unit (s := S8x3x32x512) ![b.val, a.val, 16 * lg.val, 128 * st.val] S1x1x16x128.size (by
    intro a; fin_cases a <;> simp [Shape.size] <;> omega)

/-! ## The loads -/

def rowF (lg : Fin 2) (x : Vec F S16x128 .f32) : FVec F S8x128 .f32 :=
  shapeCast (s := S8x128) S8x128 (View.ld x (rowRect lg)) (by decide)

def rowI (lg : Fin 2) (x : Vec F S16x128 .i32) : IVec S8x128 32 :=
  shapeCast (s := S8x128) S8x128 (View.ld x (rowRect lg)) (by decide)

def rowX (a : Fin 3) (st : Fin 4) (b : Fin 8) (x : Vec F S3x1x4x8x128 .f32) : FVec F S8x128 .f32 :=
  broadcastTo S8x128 (shapeCast S1x128 (shapeCast (s := S1x1x1x1x128) S1x128 (View.ld x (xRect a st b)) (by decide)) (by decide)) (by decide)

def rowG (c : Fin 8) (lg : Fin 2) (st : Fin 4) (b : Fin 8) (x : Vec F S8x2x32x8x128 .i32) : IVec S8x128 32 :=
  shapeCast (s := S1x1x1x8x128) S8x128 (View.ld x (gRect c lg st b)) (by decide)

/-! ## The arithmetic, on vectors of eight levels by 128 points -/

/-- A position on the grid of a level. -/
def pos (nf x : FVec F S8x128 .f32) : FVec F S8x128 .f32 := mulf x nf

/-- The corner of the cell that holds a position. -/
def base (nf x : FVec F S8x128 .f32) : FVec F S8x128 .f32 :=
  minimumf (floor (pos nf x)) (subf nf (broadcast S8x128 (Scalar.ofBits .f32 0x3F800000#32)))

def ibase (nf x : FVec F S8x128 .f32) : IVec S8x128 32 := fptosi 32 (base nf x)

/-- The fraction of a position inside its cell. -/
def frac (nf x : FVec F S8x128 .f32) : FVec F S8x128 .f32 := subf (pos nf x) (base nf x)

/-- The parity of the table index of the cell's first corner, by linear index or by hash. -/
def par (dense : IVec S8x128 1) (n1 ix iy iz : IVec S8x128 32) : IVec S8x128 32 :=
  select dense (andi (addi ix (muli n1 (addi iy (muli n1 iz)))) (broadcast S8x128 1#32))
    (andi (xori (xori ix iy) iz) (broadcast S8x128 1#32))

/-- That parity at the pair of corners `cy`, `cz`; `t` is the parity of `cy + cz`. -/
def parAt (dense : IVec S8x128 1) (n1 p : IVec S8x128 32) (cy cz t : BitVec 32) : IVec S8x128 32 :=
  xori p (select dense
    (andi (addi (muli n1 (broadcast S8x128 cy)) (muli n1 (broadcast S8x128 cz))) (broadcast S8x128 1#32))
    (broadcast S8x128 t))

/-- The word of the corner at `cx = 0`, its entry in the high half. -/
def word0 (pc w : IVec S8x128 32) : IVec S8x128 32 :=
  select (cmpi .eq pc (broadcast S8x128 0#32)) (shli w (broadcast S8x128 16#32)) w

/-- The word of the corner at `cx = 1`. -/
def word1 (pc w : IVec S8x128 32) : IVec S8x128 32 :=
  select (cmpi .eq pc (broadcast S8x128 0#32)) w (shli w (broadcast S8x128 16#32))

/-- The first code of an entry. -/
def dec0 (e : IVec S8x128 32) : FVec F S8x128 .f32 :=
  sitofp .f32 (shrsi (shli e (broadcast S8x128 8#32)) (broadcast S8x128 24#32))

/-- The second code of an entry. -/
def dec1 (e : IVec S8x128 32) : FVec F S8x128 .f32 := sitofp .f32 (shrsi e (broadcast S8x128 24#32))

def lerp (w a d : FVec F S8x128 .f32) : FVec F S8x128 .f32 := addf a (mulf w d)

/-- The three fractions and the two scales of a unit, and the two codes' values at the eight corners. -/
structure In (F : FTy → Type) where
  wx : FVec F S8x128 .f32
  wy : FVec F S8x128 .f32
  wz : FVec F S8x128 .f32
  v : Fin 8 → FVec F S8x128 .f32
  scale : FVec F S8x128 .f32
  gscale : FVec F S8x128 .f32

namespace In

variable (u : In F)

def d01 : FVec F S8x128 .f32 := subf (u.v 1) (u.v 0)
def d23 : FVec F S8x128 .f32 := subf (u.v 3) (u.v 2)
def d45 : FVec F S8x128 .f32 := subf (u.v 5) (u.v 4)
def d67 : FVec F S8x128 .f32 := subf (u.v 7) (u.v 6)
def x01 : FVec F S8x128 .f32 := lerp u.wx (u.v 0) u.d01
def x23 : FVec F S8x128 .f32 := lerp u.wx (u.v 2) u.d23
def x45 : FVec F S8x128 .f32 := lerp u.wx (u.v 4) u.d45
def x67 : FVec F S8x128 .f32 := lerp u.wx (u.v 6) u.d67
def dy0 : FVec F S8x128 .f32 := subf u.x23 u.x01
def dy1 : FVec F S8x128 .f32 := subf u.x67 u.x45
def y0 : FVec F S8x128 .f32 := lerp u.wy u.x01 u.dy0
def y1 : FVec F S8x128 .f32 := lerp u.wy u.x45 u.dy1
def dxy0 : FVec F S8x128 .f32 := lerp u.wy u.d01 (subf u.d23 u.d01)
def dxy1 : FVec F S8x128 .f32 := lerp u.wy u.d45 (subf u.d67 u.d45)
def gz : FVec F S8x128 .f32 := subf u.y1 u.y0

def enc : FVec F S8x128 .f32 := mulf (lerp u.wz u.y0 u.gz) u.scale
def gradX : FVec F S8x128 .f32 := mulf (lerp u.wz u.dxy0 (subf u.dxy1 u.dxy0)) u.gscale
def gradY : FVec F S8x128 .f32 := mulf (lerp u.wz u.dy0 (subf u.dy1 u.dy0)) u.gscale
def gradZ : FVec F S8x128 .f32 := mulf u.gz u.gscale

def grad (a : Fin 3) : FVec F S8x128 .f32 := match a with
  | 0 => u.gradX
  | 1 => u.gradY
  | 2 => u.gradZ

end In

section

variable (lg : Fin 2) (st : Fin 4) (b : Fin 8)
variable (x0 : Vec F S3x1x4x8x128 .f32) (x1 : Vec F S8x2x32x8x128 .i32) (x2 x3 : Vec F S16x128 .f32)
variable (x4 x5 : Vec F S16x128 .i32)

def dense : IVec S8x128 1 := cmpi .sgt (rowI (F := F) lg x4) (broadcast S8x128 0#32)

def par0 : IVec S8x128 32 :=
  par (dense (F := F) lg x4) (rowI (F := F) lg x5) (ibase (rowF lg x2) (rowX 0 st b x0)) (ibase (rowF lg x2) (rowX 1 st b x0))
    (ibase (rowF lg x2) (rowX 2 st b x0))

/-- The word of corner `c`, its entry in the high half. -/
def word (c : Fin 8) : IVec S8x128 32 := match c with
  | 0 => word0 (parAt (dense (F := F) lg x4) (rowI (F := F) lg x5) (par0 lg st b x0 x2 x4 x5) 0#32 0#32 0#32) (rowG (F := F) 0 lg st b x1)
  | 1 => word1 (parAt (dense (F := F) lg x4) (rowI (F := F) lg x5) (par0 lg st b x0 x2 x4 x5) 0#32 0#32 0#32) (rowG (F := F) 1 lg st b x1)
  | 2 => word0 (parAt (dense (F := F) lg x4) (rowI (F := F) lg x5) (par0 lg st b x0 x2 x4 x5) 1#32 0#32 1#32) (rowG (F := F) 2 lg st b x1)
  | 3 => word1 (parAt (dense (F := F) lg x4) (rowI (F := F) lg x5) (par0 lg st b x0 x2 x4 x5) 1#32 0#32 1#32) (rowG (F := F) 3 lg st b x1)
  | 4 => word0 (parAt (dense (F := F) lg x4) (rowI (F := F) lg x5) (par0 lg st b x0 x2 x4 x5) 0#32 1#32 1#32) (rowG (F := F) 4 lg st b x1)
  | 5 => word1 (parAt (dense (F := F) lg x4) (rowI (F := F) lg x5) (par0 lg st b x0 x2 x4 x5) 0#32 1#32 1#32) (rowG (F := F) 5 lg st b x1)
  | 6 => word0 (parAt (dense (F := F) lg x4) (rowI (F := F) lg x5) (par0 lg st b x0 x2 x4 x5) 1#32 1#32 0#32) (rowG (F := F) 6 lg st b x1)
  | 7 => word1 (parAt (dense (F := F) lg x4) (rowI (F := F) lg x5) (par0 lg st b x0 x2 x4 x5) 1#32 1#32 0#32) (rowG (F := F) 7 lg st b x1)

/-- The unit's values with the corners' values `v`. -/
def unitIn (v : Fin 8 → FVec F S8x128 .f32) : In F where
  wx := frac (rowF lg x2) (rowX 0 st b x0)
  wy := frac (rowF lg x2) (rowX 1 st b x0)
  wz := frac (rowF lg x2) (rowX 2 st b x0)
  v := v
  scale := rowF lg x3
  gscale := mulf (rowF lg x3) (rowF lg x2)

def unit0 : In F := unitIn lg st b x0 x2 x3 fun c => dec0 (word lg st b x0 x1 x2 x4 x5 c)
def unit1 : In F := unitIn lg st b x0 x2 x3 fun c => dec1 (word lg st b x0 x1 x2 x4 x5 c)

/-- Two vectors as rounded rows, the first on the even rows. -/
def rows (lo hi : FVec F S8x128 .f32) : FVec F S16x128 .bf16 :=
  interleaveRows S16x128 (truncf .bf16 lo) (truncf .bf16 hi) (t := S8x128) (by decide)

def encPiece : FVec F S1x16x128 .bf16 :=
  shapeCast S1x16x128 (rows (unit0 lg st b x0 x1 x2 x3 x4 x5).enc (unit1 lg st b x0 x1 x2 x3 x4 x5).enc) (by decide)

def gradPiece (a : Fin 3) : FVec F S1x1x16x128 .bf16 :=
  shapeCast S1x1x16x128 (rows ((unit0 lg st b x0 x1 x2 x3 x4 x5).grad a) ((unit1 lg st b x0 x1 x2 x3 x4 x5).grad a)) (by decide)

end

end Cert.KernelIdeal.Interp

end
-- ==== Proof.Pieces.lean ====
/- The interpolation body's stores are the unit of Unit.lean at its 64 arguments: the pieces of both results, last
   store first. -/
module

public import proofs.«01_k».proof.Proof.Unit

@[expose] public section

set_option maxRecDepth 16384

noncomputable section

namespace Cert.KernelIdeal.Interp

open Idealize.ShloMosaic Cert.KernelIdeal Idealize.ShloMosaic.Tactic Cert.KernelIdeal.Gen

variable {F : FTy → Type} [FloatOps F]
variable (x0 : Vec F S3x1x4x8x128 .f32) (x1 : Vec F S8x2x32x8x128 .i32) (x2 x3 : Vec F S16x128 .f32)
variable (x4 x5 : Vec F S16x128 .i32)

/-- The `k`-th unit from the end: its level group, tile and batch row. -/
abbrev lgOf (k : Fin 64) : Fin 2 := ⟨(63 - k.val) / 32, by omega⟩
abbrev stOf (k : Fin 64) : Fin 4 := ⟨(63 - k.val) / 8 % 4, by omega⟩
abbrev bOf (k : Fin 64) : Fin 8 := ⟨(63 - k.val) % 8, by omega⟩

/-- The `k`-th derivative store from the end: its unit, from the end, and its axis. -/
abbrev uOf (k : Fin 192) : Fin 64 := ⟨k.val / 3, by omega⟩
abbrev aOf (k : Fin 192) : Fin 3 := ⟨2 - k.val % 3, by omega⟩

theorem out6_eq : out0_6 x0 x1 x2 x3 x4 x5 = View.canon (List.ofFn fun k : Fin 64 =>
    (⟨encRect (lgOf k) (stOf k) (bOf k), encPiece (lgOf k) (stOf k) (bOf k) x0 x1 x2 x3 x4 x5⟩ :
      View.Piece (Elt F) S8x32x512 .bf16)) := by
  sl_kernel_rfl

theorem out7_eq : out0_7 x0 x1 x2 x3 x4 x5 = View.canon (List.ofFn fun k : Fin 192 =>
    (⟨gradRect (lgOf (uOf k)) (stOf (uOf k)) (bOf (uOf k)) (aOf k),
      gradPiece (lgOf (uOf k)) (stOf (uOf k)) (bOf (uOf k)) x0 x1 x2 x3 x4 x5 (aOf k)⟩ :
      View.Piece (Elt F) S8x3x32x512 .bf16)) := by
  sl_kernel_rfl

end Cert.KernelIdeal.Interp

end
-- ==== Proof.Spec.lean ====
/- The arithmetic of one point at one level, on scalars: the interpolation by nested steps, as the kernel computes it,
   and by the weights of the eight corners, as the reference computes it; and that the two agree on real fractions and
   real corner values. -/
module

public import Idealize.ShloMosaic.Lib.Pipeline.ValueKit

@[expose] public section

noncomputable section

namespace Cert.Grid

open Idealize.ShloMosaic

/-- The three fractions of a point in its cell, the values at the cell's corners, and the two scales. -/
structure Pt where
  wx : EReal
  wy : EReal
  wz : EReal
  v : Fin 8 → EReal
  scale : EReal
  gscale : EReal

/-- One step of the interpolation. -/
def lerp (w a d : EReal) : EReal := a + w * d

namespace Pt

variable (u : Pt)

def d01 : EReal := u.v 1 - u.v 0
def d23 : EReal := u.v 3 - u.v 2
def d45 : EReal := u.v 5 - u.v 4
def d67 : EReal := u.v 7 - u.v 6
def x01 : EReal := lerp u.wx (u.v 0) u.d01
def x23 : EReal := lerp u.wx (u.v 2) u.d23
def x45 : EReal := lerp u.wx (u.v 4) u.d45
def x67 : EReal := lerp u.wx (u.v 6) u.d67
def dy0 : EReal := u.x23 - u.x01
def dy1 : EReal := u.x67 - u.x45
def y0 : EReal := lerp u.wy u.x01 u.dy0
def y1 : EReal := lerp u.wy u.x45 u.dy1
def dxy0 : EReal := lerp u.wy u.d01 (u.d23 - u.d01)
def dxy1 : EReal := lerp u.wy u.d45 (u.d67 - u.d45)
def gz : EReal := u.y1 - u.y0

def enc : EReal := lerp u.wz u.y0 u.gz * u.scale
def gradX : EReal := lerp u.wz u.dxy0 (u.dxy1 - u.dxy0) * u.gscale
def gradY : EReal := lerp u.wz u.dy0 (u.dy1 - u.dy0) * u.gscale
def gradZ : EReal := u.gz * u.gscale

def grad (a : Fin 3) : EReal := match a with
  | 0 => u.gradX
  | 1 => u.gradY
  | 2 => u.gradZ

end Pt

/-! ## By weights -/

/-- Corner `c`'s offset along axis `a`: bit `a` of `c`. -/
def bit (c : Fin 8) (a : Fin 3) : BitVec 32 := BitVec.ofNat 32 (c.val / 2 ^ a.val % 2)

/-- The factor of a weight along an axis: the fraction at the far corner, one minus it at the near one. -/
def fac (b : BitVec 32) (w : EReal) : EReal := Scalar.select (IntOp.cmpi .eq b 1#32) w (1 - w)

/-- The factor's derivative: plus or minus one. -/
def sgn (b : BitVec 32) : EReal := (((2#32 * b - 1#32).toInt : ℝ) : EReal)

/-- The weight of corner `c`. -/
def weight (w : Fin 3 → EReal) (c : Fin 8) : EReal :=
  fac (bit c 0) (w 0) * fac (bit c 1) (w 1) * fac (bit c 2) (w 2)

/-- The product of the two factors that an axis leaves. -/
def rest (w : Fin 3 → EReal) (c : Fin 8) (a : Fin 3) : EReal := match a with
  | 0 => fac (bit c 1) (w 1) * fac (bit c 2) (w 2)
  | 1 => fac (bit c 0) (w 0) * fac (bit c 2) (w 2)
  | 2 => fac (bit c 0) (w 0) * fac (bit c 1) (w 1)

theorem fac_bit (c : Fin 8) (a : Fin 3) (w : EReal) :
    fac (bit c a) w = if c.val / 2 ^ a.val % 2 = 1 then w else 1 - w := by
  fin_cases c <;> fin_cases a <;> rfl

theorem sgn_bit (c : Fin 8) (a : Fin 3) :
    sgn (bit c a) = ((if c.val / 2 ^ a.val % 2 = 1 then 1 else -1 : ℝ) : EReal) := by
  have h : ∀ (c : Fin 8) (a : Fin 3), (2#32 * bit c a - 1#32).toInt = if c.val / 2 ^ a.val % 2 = 1 then 1 else -1 := by
    decide
  unfold sgn
  rw [h]
  split <;> simp

/-- The nested steps are the weighted sum. -/
theorem enc_eq (w : Fin 3 → ℝ) (v : Fin 8 → ℝ) (s t : EReal) :
    (Pt.mk (w 0) (w 1) (w 2) (fun c => (v c : EReal)) s t).enc
      = (∑ c : Fin 8, weight (fun a => (w a : EReal)) c * (v c : EReal)) * s := by
  simp only [Pt.enc, Pt.y0, Pt.y1, Pt.gz, Pt.dy0, Pt.dy1, Pt.x01, Pt.x23, Pt.x45, Pt.x67, Pt.d01, Pt.d23, Pt.d45, Pt.d67,
    lerp, weight, fac_bit, Fin.sum_univ_eight]
  refine congrArg (· * s) ?_
  simp only [Fin.isValue, Fin.coe_ofNat_eq_mod, Nat.reduceMod, Nat.reducePow, Nat.reduceDiv, ↓reduceIte, Nat.zero_ne_one,
    Nat.zero_mod, Nat.zero_div, Nat.one_mod, pow_zero, Nat.div_one, pow_one, OfNat.zero_ne_ofNat, OfNat.ofNat_ne_one]
  norm_cast
  ring

/-- Their derivatives are the sums weighted by the derivatives of the weights. -/
theorem grad_eq (w : Fin 3 → ℝ) (v : Fin 8 → ℝ) (s t : EReal) (a : Fin 3) :
    (Pt.mk (w 0) (w 1) (w 2) (fun c => (v c : EReal)) s t).grad a
      = t * (∑ c : Fin 8, sgn (bit c a) * rest (fun a => (w a : EReal)) c a * (v c : EReal)) := by
  rw [mul_comm t]
  fin_cases a <;>
  · simp only [Pt.grad, Pt.gradX, Pt.gradY, Pt.gradZ, Pt.y0, Pt.y1, Pt.gz, Pt.dxy0, Pt.dxy1, Pt.dy0, Pt.dy1, Pt.x01,
      Pt.x23, Pt.x45, Pt.x67, Pt.d01, Pt.d23, Pt.d45, Pt.d67, lerp, rest, fac_bit, sgn_bit, Fin.sum_univ_eight]
    refine congrArg (· * t) ?_
    simp only [Fin.isValue, Fin.coe_ofNat_eq_mod, Nat.reduceMod, Nat.reducePow, Nat.reduceDiv, ↓reduceIte, Nat.zero_ne_one,
      Nat.zero_mod, Nat.zero_div, Nat.one_mod, pow_zero, Nat.div_one, pow_one, OfNat.zero_ne_ofNat, OfNat.ofNat_ne_one,
      Fin.zero_eta, Fin.mk_one, Fin.reduceFinMk]
    simp only [← EReal.coe_mul, ← EReal.coe_add, ← EReal.coe_sub, ← EReal.coe_one]
    refine congrArg Real.toEReal ?_
    ring

end Cert.Grid

end
-- ==== Proof.Words.lean ====
/- The table index of a corner and the codes in the fetched word, on scalars. The reference computes the index and shifts
   the word by its parity; the kernel computes the parity alone, of one corner, and flips it for the others. Both read
   the same codes. -/
module

public import Idealize.ShloMosaic.Lib.Pipeline.ValueKit
public import proofs.«01_k».proof.Proof.Spec

@[expose] public section

noncomputable section

namespace Cert.Grid

open Idealize.ShloMosaic

/-! ## Parities -/

/-- The lowest bit. -/
def lsb (x : BitVec 32) : Bool := x.getLsbD 0

theorem lsb_eq (x : BitVec 32) : lsb x = decide (x.toNat % 2 = 1) := by
  simp [lsb, BitVec.getLsbD, Nat.testBit_zero]

theorem lsb_add (x y : BitVec 32) : lsb (x + y) = (lsb x ^^ lsb y) := by
  have e : (x + y).toNat % 2 = (x.toNat % 2 + y.toNat % 2) % 2 := by rw [BitVec.toNat_add]; omega
  simp only [lsb_eq, e]
  rcases Nat.mod_two_eq_zero_or_one x.toNat with h | h <;> rcases Nat.mod_two_eq_zero_or_one y.toNat with h' | h' <;>
    simp [h, h']

theorem lsb_mul (x y : BitVec 32) : lsb (x * y) = (lsb x && lsb y) := by
  have e : (x * y).toNat % 2 = (x.toNat % 2 * (y.toNat % 2)) % 2 := by
    rw [BitVec.toNat_mul, ← Nat.mul_mod]; omega
  simp only [lsb_eq, e]
  rcases Nat.mod_two_eq_zero_or_one x.toNat with h | h <;> rcases Nat.mod_two_eq_zero_or_one y.toNat with h' | h' <;>
    simp [h, h']

theorem lsb_xor (x y : BitVec 32) : lsb (x ^^^ y) = (lsb x ^^ lsb y) := by simp [lsb]

theorem lsb_and (x y : BitVec 32) : lsb (x &&& y) = (lsb x && lsb y) := by simp [lsb]

theorem and_one (x : BitVec 32) : x &&& 1#32 = if lsb x then 1#32 else 0#32 := by
  apply BitVec.eq_of_toNat_eq
  rw [BitVec.toNat_and, show (1#32).toNat = 1 from rfl, Nat.and_one_is_mod, lsb_eq]
  rcases Nat.mod_two_eq_zero_or_one x.toNat with h | h <;> simp [h]

/-! ## The kernel's words -/

/-- The parity of the index of the cell's first corner: linear (`d = 1`) or hashed. -/
def kPar (d : BitVec 1) (n1 ix iy iz : BitVec 32) : BitVec 32 :=
  Scalar.select d ((ix + n1 * (iy + n1 * iz)) &&& 1#32) (((ix ^^^ iy) ^^^ iz) &&& 1#32)

/-- That parity at the pair of corners `cy`, `cz`; `t` is the parity of `cy + cz`. -/
def kParAt (d : BitVec 1) (n1 p cy cz t : BitVec 32) : BitVec 32 :=
  p ^^^ Scalar.select d ((n1 * cy + n1 * cz) &&& 1#32) t

def kWord0 (pc w : BitVec 32) : BitVec 32 :=
  Scalar.select (IntOp.cmpi .eq pc 0#32) (IntOp.shli .vector w 16#32) w

def kWord1 (pc w : BitVec 32) : BitVec 32 :=
  Scalar.select (IntOp.cmpi .eq pc 0#32) w (IntOp.shli .vector w 16#32)

/-- Corner `c`'s word, its entry in the high half. -/
def kWord (d : BitVec 1) (n1 p : BitVec 32) (w : Fin 8 → BitVec 32) (c : Fin 8) : BitVec 32 := match c with
  | 0 => kWord0 (kParAt d n1 p 0#32 0#32 0#32) (w 0)
  | 1 => kWord1 (kParAt d n1 p 0#32 0#32 0#32) (w 1)
  | 2 => kWord0 (kParAt d n1 p 1#32 0#32 1#32) (w 2)
  | 3 => kWord1 (kParAt d n1 p 1#32 0#32 1#32) (w 3)
  | 4 => kWord0 (kParAt d n1 p 0#32 1#32 1#32) (w 4)
  | 5 => kWord1 (kParAt d n1 p 0#32 1#32 1#32) (w 5)
  | 6 => kWord0 (kParAt d n1 p 1#32 1#32 0#32) (w 6)
  | 7 => kWord1 (kParAt d n1 p 1#32 1#32 0#32) (w 7)

def kCode0 (e : BitVec 32) : BitVec 32 := IntOp.shrsi .vector (IntOp.shli .vector e 8#32) 24#32
def kCode1 (e : BitVec 32) : BitVec 32 := IntOp.shrsi .vector e 24#32

/-! ## The reference's words -/

/-- The table index of the corner at `x`, `y`, `z`. -/
def rIdx (d : BitVec 1) (n1 x y z : BitVec 32) : BitVec 32 :=
  Scalar.select d (x + n1 * (y + n1 * z))
    (((x * 1#32 ^^^ y * 2654435761#32) ^^^ z * 805459861#32) &&& 1048575#32)

/-- The fetched word shifted to its entry. -/
def rWord (i w : BitVec 32) : BitVec 32 := IntOp.shrsi .host w (16#32 * (i &&& 1#32))

def rCode0 (v : BitVec 32) : BitVec 32 := IntOp.shrsi .host (IntOp.shli .host v 24#32) 24#32
def rCode1 (v : BitVec 32) : BitVec 32 := IntOp.shrsi .host (IntOp.shli .host v 16#32) 24#32

/-! ## They agree -/

theorem shl_vector (w s : BitVec 32) (h : s.toNat < 32) : IntOp.shli .vector w s = w <<< s.toNat := by
  unfold IntOp.shli; rw [if_pos h]; rfl

theorem shl_host (w s : BitVec 32) (h : s.toNat < 32) : IntOp.shli .host w s = w <<< s.toNat := by
  unfold IntOp.shli; rw [if_pos h]; rfl

theorem shr_vector (w s : BitVec 32) (h : s.toNat < 32) : IntOp.shrsi .vector w s = w.sshiftRight s.toNat := by
  unfold IntOp.shrsi; rw [if_pos h]; rfl

theorem shr_host (w s : BitVec 32) (h : s.toNat < 32) : IntOp.shrsi .host w s = w.sshiftRight s.toNat := by
  unfold IntOp.shrsi; rw [if_pos h]; rfl

theorem low0 (w : BitVec 32) : ((w <<< 16) <<< 8).sshiftRight 24 = ((w.sshiftRight 0) <<< 24).sshiftRight 24 := by
  rw [BitVec.sshiftRight_zero, ← BitVec.shiftLeft_add]

theorem low1 (w : BitVec 32) : (w <<< 16).sshiftRight 24 = ((w.sshiftRight 0) <<< 16).sshiftRight 24 := by
  rw [BitVec.sshiftRight_zero]

theorem high0 (w : BitVec 32) : (w <<< 8).sshiftRight 24 = ((w.sshiftRight 16) <<< 24).sshiftRight 24 := by
  apply BitVec.eq_of_getLsbD_eq
  intro i hi
  simp only [BitVec.getLsbD_sshiftRight, BitVec.getLsbD_shiftLeft, BitVec.msb_eq_getLsbD_last]
  interval_cases i <;> simp

theorem high1 (w : BitVec 32) : w.sshiftRight 24 = ((w.sshiftRight 16) <<< 16).sshiftRight 24 := by
  apply BitVec.eq_of_getLsbD_eq
  intro i hi
  simp only [BitVec.getLsbD_sshiftRight, BitVec.getLsbD_shiftLeft, BitVec.msb_eq_getLsbD_last]
  interval_cases i <;> simp

theorem code0_eq (i w : BitVec 32) :
    kCode0 (if lsb i then w else IntOp.shli .vector w 16#32) = rCode0 (rWord i w) := by
  unfold kCode0 rCode0 rWord
  rw [and_one]
  cases lsb i
  · simp only [Bool.false_eq_true, ↓reduceIte]
    rw [shl_vector _ _ (by decide), shl_vector _ _ (by decide), shr_vector _ _ (by decide), shr_host _ _ (by decide),
      shl_host _ _ (by decide), shr_host _ _ (by decide)]
    exact low0 w
  · simp only [↓reduceIte]
    rw [shl_vector _ _ (by decide), shr_vector _ _ (by decide), shr_host _ _ (by decide),
      shl_host _ _ (by decide), shr_host _ _ (by decide)]
    exact high0 w

theorem code1_eq (i w : BitVec 32) :
    kCode1 (if lsb i then w else IntOp.shli .vector w 16#32) = rCode1 (rWord i w) := by
  unfold kCode1 rCode1 rWord
  rw [and_one]
  cases lsb i
  · simp only [Bool.false_eq_true, ↓reduceIte]
    rw [shl_vector _ _ (by decide), shr_vector _ _ (by decide), shr_host _ _ (by decide),
      shl_host _ _ (by decide), shr_host _ _ (by decide)]
    exact low1 w
  · simp only [↓reduceIte]
    rw [shr_vector _ _ (by decide), shr_host _ _ (by decide),
      shl_host _ _ (by decide), shr_host _ _ (by decide)]
    exact high1 w

theorem kWord0_eq (p : Bool) (w : BitVec 32) :
    kWord0 (if p then 1#32 else 0#32) w = if p then w else IntOp.shli .vector w 16#32 := by
  cases p <;> rfl

theorem kWord1_eq (p : Bool) (w : BitVec 32) :
    kWord1 (if p then 1#32 else 0#32) w = if !p then w else IntOp.shli .vector w 16#32 := by
  cases p <;> rfl

theorem xor_ite (p q : Bool) : (if p then 1#32 else 0#32) ^^^ (if q then 1#32 else 0#32) = if (p ^^ q) then 1#32 else 0#32 := by
  cases p <;> cases q <;> rfl

/-- The pair's parity as one bit: linear. -/
theorem kParAt_linear (n1 ix iy iz cy cz t : BitVec 32) :
    kParAt 1#1 n1 (kPar 1#1 n1 ix iy iz) cy cz t
      = if ((lsb ix ^^ (lsb n1 && (lsb iy ^^ (lsb n1 && lsb iz)))) ^^ ((lsb n1 && lsb cy) ^^ (lsb n1 && lsb cz))) then 1#32 else 0#32 := by
  show ((ix + n1 * (iy + n1 * iz)) &&& 1#32) ^^^ ((n1 * cy + n1 * cz) &&& 1#32) = _
  rw [and_one, and_one, xor_ite]
  simp only [lsb_add, lsb_mul]

/-- And hashed. -/
theorem kParAt_hash (n1 ix iy iz cy cz : BitVec 32) (t : Bool) :
    kParAt 0#1 n1 (kPar 0#1 n1 ix iy iz) cy cz (if t then 1#32 else 0#32)
      = if (((lsb ix ^^ lsb iy) ^^ lsb iz) ^^ t) then 1#32 else 0#32 := by
  show (((ix ^^^ iy) ^^^ iz) &&& 1#32) ^^^ (if t then 1#32 else 0#32) = _
  rw [and_one, xor_ite]
  simp only [lsb_xor]

/-- The parity of the index of corner `c`. -/
theorem lsb_rIdx_linear (n1 ix iy iz bx bY bz : BitVec 32) :
    lsb (rIdx 1#1 n1 (ix + bx) (iy + bY) (iz + bz))
      = ((lsb ix ^^ lsb bx) ^^ (lsb n1 && ((lsb iy ^^ lsb bY) ^^ (lsb n1 && (lsb iz ^^ lsb bz))))) := by
  show lsb ((ix + bx) + n1 * ((iy + bY) + n1 * (iz + bz))) = _
  simp only [lsb_add, lsb_mul]

theorem lsb_rIdx_hash (n1 ix iy iz bx bY bz : BitVec 32) :
    lsb (rIdx 0#1 n1 (ix + bx) (iy + bY) (iz + bz))
      = (((lsb ix ^^ lsb bx) ^^ (lsb iy ^^ lsb bY)) ^^ (lsb iz ^^ lsb bz)) := by
  show lsb (((((ix + bx) * 1#32 ^^^ (iy + bY) * 2654435761#32) ^^^ (iz + bz) * 805459861#32) &&& 1048575#32)) = _
  simp only [lsb_and, lsb_xor, lsb_mul, lsb_add]
  rw [show lsb 1#32 = true from rfl, show lsb 2654435761#32 = true from rfl, show lsb 805459861#32 = true from rfl,
    show lsb 1048575#32 = true from rfl]
  simp only [Bool.and_true]

theorem bool_linear0 (a n y z p q : Bool) :
    ((a ^^ (n && (y ^^ (n && z)))) ^^ ((n && p) ^^ (n && q))) = ((a ^^ false) ^^ (n && ((y ^^ p) ^^ (n && (z ^^ q))))) := by
  revert a n y z p q; decide

theorem bool_linear1 (a n y z p q : Bool) :
    (!((a ^^ (n && (y ^^ (n && z)))) ^^ ((n && p) ^^ (n && q)))) = ((a ^^ true) ^^ (n && ((y ^^ p) ^^ (n && (z ^^ q))))) := by
  revert a n y z p q; decide

theorem bool_hash0 (a y z p q : Bool) : (((a ^^ y) ^^ z) ^^ (p ^^ q)) = (((a ^^ false) ^^ (y ^^ p)) ^^ (z ^^ q)) := by
  revert a y z p q; decide

theorem bool_hash1 (a y z p q : Bool) : (!(((a ^^ y) ^^ z) ^^ (p ^^ q))) = (((a ^^ true) ^^ (y ^^ p)) ^^ (z ^^ q)) := by
  revert a y z p q; decide

/-- A near corner's word. -/
theorem kWord0_pair (d : BitVec 1) (n1 ix iy iz w : BitVec 32) (p q : Bool) :
    kWord0 (kParAt d n1 (kPar d n1 ix iy iz) (if p then 1#32 else 0#32) (if q then 1#32 else 0#32) (if (p ^^ q) then 1#32 else 0#32)) w
      = if lsb (rIdx d n1 (ix + 0#32) (iy + (if p then 1#32 else 0#32)) (iz + (if q then 1#32 else 0#32))) then w
        else IntOp.shli .vector w 16#32 := by
  have hp : ∀ b : Bool, lsb (if b then 1#32 else 0#32) = b := by decide
  have h0 : lsb 0#32 = false := by decide
  rcases (by revert d; decide : d = 1#1 ∨ d = 0#1) with rfl | rfl
  · rw [kParAt_linear, kWord0_eq, lsb_rIdx_linear, hp, hp, h0, bool_linear0]
  · rw [kParAt_hash, kWord0_eq, lsb_rIdx_hash, hp, hp, h0, bool_hash0]

/-- A far corner's word. -/
theorem kWord1_pair (d : BitVec 1) (n1 ix iy iz w : BitVec 32) (p q : Bool) :
    kWord1 (kParAt d n1 (kPar d n1 ix iy iz) (if p then 1#32 else 0#32) (if q then 1#32 else 0#32) (if (p ^^ q) then 1#32 else 0#32)) w
      = if lsb (rIdx d n1 (ix + 1#32) (iy + (if p then 1#32 else 0#32)) (iz + (if q then 1#32 else 0#32))) then w
        else IntOp.shli .vector w 16#32 := by
  have hp : ∀ b : Bool, lsb (if b then 1#32 else 0#32) = b := by decide
  have h1 : lsb 1#32 = true := by decide
  rcases (by revert d; decide : d = 1#1 ∨ d = 0#1) with rfl | rfl
  · rw [kParAt_linear, kWord1_eq, lsb_rIdx_linear, hp, hp, h1, bool_linear1]
  · rw [kParAt_hash, kWord1_eq, lsb_rIdx_hash, hp, hp, h1, bool_hash1]

/-- Every corner's word, by the parity of its index. -/
theorem kWord_eq (d : BitVec 1) (n1 ix iy iz : BitVec 32) (w : Fin 8 → BitVec 32) (c : Fin 8) :
    kWord d n1 (kPar d n1 ix iy iz) w c
      = if lsb (rIdx d n1 (ix + bit c 0) (iy + bit c 1) (iz + bit c 2)) then w c else IntOp.shli .vector (w c) 16#32 := by
  match c with
  | 0 => exact kWord0_pair d n1 ix iy iz (w 0) false false
  | 1 => exact kWord1_pair d n1 ix iy iz (w 1) false false
  | 2 => exact kWord0_pair d n1 ix iy iz (w 2) true false
  | 3 => exact kWord1_pair d n1 ix iy iz (w 3) true false
  | 4 => exact kWord0_pair d n1 ix iy iz (w 4) false true
  | 5 => exact kWord1_pair d n1 ix iy iz (w 5) false true
  | 6 => exact kWord0_pair d n1 ix iy iz (w 6) true true
  | 7 => exact kWord1_pair d n1 ix iy iz (w 7) true true

theorem kCode0_word (d : BitVec 1) (n1 ix iy iz : BitVec 32) (w : Fin 8 → BitVec 32) (c : Fin 8) :
    kCode0 (kWord d n1 (kPar d n1 ix iy iz) w c)
      = rCode0 (rWord (rIdx d n1 (ix + bit c 0) (iy + bit c 1) (iz + bit c 2)) (w c)) := by
  rw [kWord_eq, code0_eq]

theorem kCode1_word (d : BitVec 1) (n1 ix iy iz : BitVec 32) (w : Fin 8 → BitVec 32) (c : Fin 8) :
    kCode1 (kWord d n1 (kPar d n1 ix iy iz) w c)
      = rCode1 (rWord (rIdx d n1 (ix + bit c 0) (iy + bit c 1) (iz + bit c 2)) (w c)) := by
  rw [kWord_eq, code1_eq]

/-! ## The cell -/

/-- The corner of the cell that holds `x` on a grid of `nf` cells. -/
def cell (nf x : EReal) : EReal := min (Ideal.liftRound Int.floor (x * nf)) (nf - 1)

/-- It is an integer that a word holds. -/
theorem cell_eq (n : ℤ) (x : ℝ) (hn : 1 ≤ n) (hn' : n ≤ 4096) (hx : -524288 ≤ x) :
    ∃ z : ℤ, cell ((n : ℝ) : EReal) (x : EReal) = ((z : ℝ) : EReal) ∧ (Ideal.fptosi 32 (cell ((n : ℝ) : EReal) (x : EReal))).toInt = z := by
  have hc : cell ((n : ℝ) : EReal) (x : EReal) = (((min ⌊x * n⌋ (n - 1) : ℤ) : ℝ) : EReal) := by
    unfold cell
    rw [← EReal.coe_mul]
    show min (((⌊x * (n : ℝ)⌋ : ℝ) : EReal)) (((n : ℝ) : EReal) - ((1 : ℝ) : EReal)) = _
    rw [← EReal.coe_sub, ← EReal.coe_strictMono.monotone.map_min]
    push_cast
    rfl
  have hlo : -2147483648 ≤ ⌊x * n⌋ := by
    rw [Int.le_floor]
    have h1 : (1 : ℝ) ≤ n := by exact_mod_cast hn
    have h2 : (n : ℝ) ≤ 4096 := by exact_mod_cast hn'
    push_cast
    nlinarith
  refine ⟨_, hc, ?_⟩
  rw [hc]
  generalize hz : min ⌊x * (n : ℝ)⌋ (n - 1) = z
  have hz1 : -2147483648 ≤ z := by omega
  have hz2 : z ≤ 4095 := by omega
  show (BitVec.ofInt 32 (max _ (min _ (if 0 ≤ (z : ℝ) then ⌊(z : ℝ)⌋ else ⌈(z : ℝ)⌉)))).toInt = z
  rw [Int.floor_intCast, Int.ceil_intCast, ite_self]
  have hm : max (-((2 ^ (32 - 1) : Nat) : ℤ)) (min (((2 ^ (32 - 1) : Nat) : ℤ) - 1) z) = z := by
    norm_num
    omega
  rw [hm, BitVec.toInt_ofInt]
  rw [Int.bmod_def]
  norm_num
  split <;> omega

/-- The fraction computed with the integer turned back into a float is the fraction computed with the float. -/
theorem frac_eq (n : ℤ) (x : ℝ) (hn : 1 ≤ n) (hn' : n ≤ 4096) (hx : -524288 ≤ x) :
    ∃ r : ℝ, (x : EReal) * ((n : ℝ) : EReal) - cell ((n : ℝ) : EReal) (x : EReal) = (r : EReal)
      ∧ (x : EReal) * ((n : ℝ) : EReal) - (((Ideal.fptosi 32 (cell ((n : ℝ) : EReal) (x : EReal))).toInt : ℝ) : EReal) = (r : EReal) := by
  obtain ⟨z, h1, h2⟩ := cell_eq n x hn hn' hx
  refine ⟨x * n - z, ?_, ?_⟩
  · rw [h1]; norm_cast
  · rw [h2]; norm_cast

end Cert.Grid

end
-- ==== Proof.Point.lean ====
/- The kernel's formulas and the reference's formulas of one point at one level, from the same inputs, and their equality
   for a point that is real and not below -2^19 on a grid of an integer number of cells. -/
module

public import proofs.«01_k».proof.Proof.Spec
public import proofs.«01_k».proof.Proof.Words

@[expose] public section

noncomputable section

namespace Cert.Grid

open Idealize.ShloMosaic

/-- A code as a number. -/
def num (e : BitVec 32) : EReal := ((e.toInt : ℝ) : EReal)

/-- A cell's corner as a word. -/
def icell (nf x : EReal) : BitVec 32 := Ideal.fptosi 32 (cell nf x)

/-- The kernel's unit: fractions, corner values (`code` reads a code off a word), scales. -/
def kPt (code : BitVec 32 → BitVec 32) (nf s : EReal) (d : BitVec 1) (n1 : BitVec 32) (x : Fin 3 → EReal)
    (w : Fin 8 → BitVec 32) : Pt where
  wx := x 0 * nf - cell nf (x 0)
  wy := x 1 * nf - cell nf (x 1)
  wz := x 2 * nf - cell nf (x 2)
  v c := num (code (kWord d n1 (kPar d n1 (icell nf (x 0)) (icell nf (x 1)) (icell nf (x 2))) w c))
  scale := s
  gscale := s * nf

/-- The reference's fraction. -/
def rFrac (nf x : EReal) : EReal := x * nf - num (icell nf x)

/-- The reference's corner value. -/
def rVal (code : BitVec 32 → BitVec 32) (nf : EReal) (d : BitVec 1) (n1 : BitVec 32) (x : Fin 3 → EReal)
    (w : Fin 8 → BitVec 32) (c : Fin 8) : EReal :=
  num (code (rWord (rIdx d n1 (icell nf (x 0) + bit c 0) (icell nf (x 1) + bit c 1) (icell nf (x 2) + bit c 2)) (w c)))

def rEnc (code : BitVec 32 → BitVec 32) (nf s : EReal) (d : BitVec 1) (n1 : BitVec 32) (x : Fin 3 → EReal)
    (w : Fin 8 → BitVec 32) : EReal :=
  (∑ c : Fin 8, weight (fun a => rFrac nf (x a)) c * rVal code nf d n1 x w c) * s

def rGrad (code : BitVec 32 → BitVec 32) (nf s : EReal) (d : BitVec 1) (n1 : BitVec 32) (x : Fin 3 → EReal)
    (w : Fin 8 → BitVec 32) (a : Fin 3) : EReal :=
  s * nf * ∑ c : Fin 8, sgn (bit c a) * rest (fun a => rFrac nf (x a)) c a * rVal code nf d n1 x w c

/-- What the two sides need of a level and a point. -/
structure Tame (nf : EReal) (x : Fin 3 → EReal) : Prop where
  level : ∃ n : ℤ, nf = ((n : ℝ) : EReal) ∧ 1 ≤ n ∧ n ≤ 4096
  point : ∀ a, ∃ r : ℝ, x a = (r : EReal) ∧ -524288 ≤ r

theorem Tame.frac {nf : EReal} {x : Fin 3 → EReal} (h : Tame nf x) :
    ∃ f : Fin 3 → ℝ, (∀ a, x a * nf - cell nf (x a) = (f a : EReal)) ∧ ∀ a, rFrac nf (x a) = (f a : EReal) := by
  obtain ⟨n, rfl, hn, hn'⟩ := h.level
  have hf : ∀ a, ∃ r : ℝ, x a * ((n : ℝ) : EReal) - cell ((n : ℝ) : EReal) (x a) = (r : EReal)
      ∧ rFrac ((n : ℝ) : EReal) (x a) = (r : EReal) := fun a => by
    obtain ⟨r, hr, hx⟩ := h.point a
    rw [hr]
    exact frac_eq n r hn hn' hx
  choose f hf using hf
  exact ⟨f, fun a => (hf a).1, fun a => (hf a).2⟩

/-- A pair of code readers that read the same code of the two sides' words. -/
def Reads (k r : BitVec 32 → BitVec 32) : Prop :=
  ∀ (d : BitVec 1) (n1 ix iy iz : BitVec 32) (w : Fin 8 → BitVec 32) (c : Fin 8),
    k (kWord d n1 (kPar d n1 ix iy iz) w c) = r (rWord (rIdx d n1 (ix + bit c 0) (iy + bit c 1) (iz + bit c 2)) (w c))

theorem reads0 : Reads kCode0 rCode0 := kCode0_word
theorem reads1 : Reads kCode1 rCode1 := kCode1_word

theorem kPt_eq {k r : BitVec 32 → BitVec 32} (hr : Reads k r) (nf s : EReal) (d : BitVec 1) (n1 : BitVec 32) (x : Fin 3 → EReal)
    (w : Fin 8 → BitVec 32) (f : Fin 3 → ℝ) (hf : ∀ a, x a * nf - cell nf (x a) = (f a : EReal)) :
    kPt k nf s d n1 x w = Pt.mk (f 0) (f 1) (f 2)
      (fun c => (((r (rWord (rIdx d n1 (icell nf (x 0) + bit c 0) (icell nf (x 1) + bit c 1) (icell nf (x 2) + bit c 2)) (w c))).toInt : ℝ) : EReal)) s (s * nf) := by
  unfold kPt
  rw [hf, hf, hf]
  congr 1
  funext c
  rw [hr]
  rfl

theorem enc_agree {k r : BitVec 32 → BitVec 32} (hr : Reads k r) (nf s : EReal) (d : BitVec 1) (n1 : BitVec 32) (x : Fin 3 → EReal)
    (w : Fin 8 → BitVec 32) (h : Tame nf x) : (kPt k nf s d n1 x w).enc = rEnc r nf s d n1 x w := by
  obtain ⟨f, hk, hR⟩ := h.frac
  rw [kPt_eq hr nf s d n1 x w f hk, rEnc, funext hR]
  exact enc_eq f (fun c => ((r (rWord (rIdx d n1 (icell nf (x 0) + bit c 0) (icell nf (x 1) + bit c 1) (icell nf (x 2) + bit c 2)) (w c))).toInt : ℝ)) s (s * nf)

theorem grad_agree {k r : BitVec 32 → BitVec 32} (hr : Reads k r) (nf s : EReal) (d : BitVec 1) (n1 : BitVec 32) (x : Fin 3 → EReal)
    (w : Fin 8 → BitVec 32) (h : Tame nf x) (a : Fin 3) : (kPt k nf s d n1 x w).grad a = rGrad r nf s d n1 x w a := by
  obtain ⟨f, hk, hR⟩ := h.frac
  rw [kPt_eq hr nf s d n1 x w f hk, rGrad, funext hR]
  exact grad_eq f (fun c => ((r (rWord (rIdx d n1 (icell nf (x 0) + bit c 0) (icell nf (x 1) + bit c 1) (icell nf (x 2) + bit c 2)) (w c))).toInt : ℝ)) s (s * nf) a

end Cert.Grid

end
-- ==== Proof.Elem.lean ====
/- The unit of Unit.lean at one row and one lane: the formulas of Point.lean at the block's elements; and the two result
   blocks of the body, element by element. -/
module

public import proofs.«01_k».proof.Proof.Pieces
public import proofs.«01_k».proof.Proof.Point
public import Idealize.ShloMosaic.Lib.Pipeline.ValueKit
public import Idealize.ShloMosaic.Lib.IdealHost

@[expose] public section

set_option maxRecDepth 16384

noncomputable section

namespace Cert.KernelIdeal.Interp

open Idealize.ShloMosaic Cert.KernelIdeal Cert.KernelIdeal.Gen Cert.Grid

/-! ## The arithmetic at an index -/

/-- The unit's inputs at an index. -/
def In.pt (u : In Ideal) (j : S8x128.Idx) : Pt :=
  ⟨u.wx j, u.wy j, u.wz j, fun c => u.v c j, u.scale j, u.gscale j⟩

theorem enc_pt (u : In Ideal) (j : S8x128.Idx) : u.enc j = (u.pt j).enc := rfl

theorem grad_pt (u : In Ideal) (a : Fin 3) (j : S8x128.Idx) : u.grad a j = (u.pt j).grad a := by
  match a with
  | 0 => rfl
  | 1 => rfl
  | 2 => rfl

theorem base_at (nf x : FVec Ideal S8x128 .f32) (j : S8x128.Idx) : base nf x j = cell (nf j) (x j) := by
  show min (Ideal.liftRound Int.floor (x j * nf j)) (nf j - Ideal.ofBits .f32 0x3F800000#32) = _
  rw [Ideal.ofBits_one_f32]
  rfl

theorem ibase_at (nf x : FVec Ideal S8x128 .f32) (j : S8x128.Idx) : ibase nf x j = icell (nf j) (x j) := by
  show Ideal.fptosi 32 (base nf x j) = _
  rw [base_at]; rfl

theorem frac_at (nf x : FVec Ideal S8x128 .f32) (j : S8x128.Idx) : frac nf x j = x j * nf j - cell (nf j) (x j) := by
  show x j * nf j - base nf x j = _
  rw [base_at]

section

variable (lg : Fin 2) (st : Fin 4) (b : Fin 8)
variable (x0 : Vec Ideal S3x1x4x8x128 .f32) (x1 : Vec Ideal S8x2x32x8x128 .i32) (x2 x3 : Vec Ideal S16x128 .f32)
variable (x4 x5 : Vec Ideal S16x128 .i32)

theorem par0_at (j : S8x128.Idx) : par0 lg st b x0 x2 x4 x5 j
    = kPar (dense (F := Ideal) lg x4 j) (rowI (F := Ideal) lg x5 j) (icell (rowF lg x2 j) (rowX 0 st b x0 j))
        (icell (rowF lg x2 j) (rowX 1 st b x0 j)) (icell (rowF lg x2 j) (rowX 2 st b x0 j)) := by
  rw [← ibase_at, ← ibase_at, ← ibase_at]
  rfl

theorem word_at (c : Fin 8) (j : S8x128.Idx) : word lg st b x0 x1 x2 x4 x5 c j
    = kWord (dense (F := Ideal) lg x4 j) (rowI (F := Ideal) lg x5 j) (par0 lg st b x0 x2 x4 x5 j)
        (fun c => rowG (F := Ideal) c lg st b x1 j) c := by
  match c with
  | 0 => rfl
  | 1 => rfl
  | 2 => rfl
  | 3 => rfl
  | 4 => rfl
  | 5 => rfl
  | 6 => rfl
  | 7 => rfl

theorem unitIn_pt (v : Fin 8 → FVec Ideal S8x128 .f32) (j : S8x128.Idx) : (unitIn lg st b x0 x2 x3 v).pt j
    = ⟨rowX 0 st b x0 j * rowF lg x2 j - cell (rowF lg x2 j) (rowX 0 st b x0 j),
       rowX 1 st b x0 j * rowF lg x2 j - cell (rowF lg x2 j) (rowX 1 st b x0 j),
       rowX 2 st b x0 j * rowF lg x2 j - cell (rowF lg x2 j) (rowX 2 st b x0 j),
       fun c => v c j, rowF lg x3 j, rowF lg x3 j * rowF lg x2 j⟩ := by
  rw [← frac_at, ← frac_at, ← frac_at]
  rfl

theorem unit0_pt (j : S8x128.Idx) : (unit0 lg st b x0 x1 x2 x3 x4 x5).pt j
    = kPt kCode0 (rowF lg x2 j) (rowF lg x3 j) (dense (F := Ideal) lg x4 j) (rowI (F := Ideal) lg x5 j) (fun a => rowX a st b x0 j)
        (fun c => rowG (F := Ideal) c lg st b x1 j) := by
  unfold unit0 kPt
  rw [unitIn_pt, ← par0_at]
  congr 1
  funext c
  rw [← word_at]
  rfl

theorem unit1_pt (j : S8x128.Idx) : (unit1 lg st b x0 x1 x2 x3 x4 x5).pt j
    = kPt kCode1 (rowF lg x2 j) (rowF lg x3 j) (dense (F := Ideal) lg x4 j) (rowI (F := Ideal) lg x5 j) (fun a => rowX a st b x0 j)
        (fun c => rowG (F := Ideal) c lg st b x1 j) := by
  unfold unit1 kPt
  rw [unitIn_pt, ← par0_at]
  congr 1
  funext c
  rw [← word_at]
  rfl

/-! ## The loads at an index -/

theorem rowF_at (x : Vec Ideal S16x128 .f32) (r : Fin 8) (l : Fin 128) :
    rowF lg x (ix2 r l) = x (ix2 (⟨8 * lg.val + r.val, by omega⟩ : Fin 16) l) := by
  pointwise [rowF]; blk_ext []

theorem rowI_at (x : Vec Ideal S16x128 .i32) (r : Fin 8) (l : Fin 128) :
    rowI lg x (ix2 r l) = x (ix2 (⟨8 * lg.val + r.val, by omega⟩ : Fin 16) l) := by
  pointwise [rowI]; blk_ext []

theorem rowX_at (a : Fin 3) (r : Fin 8) (l : Fin 128) :
    rowX a st b x0 (ix2 r l) = x0 (ix5 a (0 : Fin 1) st b l) := by
  pointwise [rowX]; blk_ext []

theorem rowG_at (c : Fin 8) (r : Fin 8) (l : Fin 128) :
    rowG c lg st b x1 (ix2 r l) = x1 (ix5 c lg (⟨st.val * 8 + b.val, by omega⟩ : Fin 32) r l) := by
  pointwise [rowG]; blk_ext []

end

end Cert.KernelIdeal.Interp

end
-- ==== Proof.Block.lean ====
/- The two result blocks of the interpolation body, element by element. -/
module

public import proofs.«01_k».proof.Proof.Elem

@[expose] public section

set_option maxRecDepth 16384

noncomputable section

namespace Cert.KernelIdeal.Interp

open Idealize.ShloMosaic Cert.KernelIdeal Cert.KernelIdeal.Gen Cert.Grid

/-- A unit from the four tables, at a level and a lane. -/
def kUnit (code : BitVec 32 → BitVec 32) (nf sc : Vec Ideal S16x128 .f32) (den n1 : Vec Ideal S16x128 .i32) (lv : Fin 16)
    (l : Fin 128) (x : Fin 3 → EReal) (w : Fin 8 → BitVec 32) : Pt :=
  kPt code (nf (ix2 lv l)) (sc (ix2 lv l)) (IntOp.cmpi .sgt (den (ix2 lv l)) 0#32) (n1 (ix2 lv l)) x w

/-- The reader of the code of feature `f`. -/
def kCode (f : ℕ) : BitVec 32 → BitVec 32 := if f = 0 then kCode0 else kCode1

section

variable (x0 : Vec Ideal S3x1x4x8x128 .f32) (x1 : Vec Ideal S8x2x32x8x128 .i32) (x2 x3 : Vec Ideal S16x128 .f32)
variable (x4 x5 : Vec Ideal S16x128 .i32)

/-- The unit of level group `lg`, tile `st`, batch row `b` at its row `r` and lane `l`. -/
def unitPt (code : BitVec 32 → BitVec 32) (lg : Fin 2) (st : Fin 4) (b : Fin 8) (r : Fin 8) (l : Fin 128) : Pt :=
  kUnit code x2 x3 x4 x5 ⟨8 * lg.val + r.val, by omega⟩ l (fun a => x0 (ix5 a (0 : Fin 1) st b l))
    (fun c => x1 (ix5 c lg (⟨st.val * 8 + b.val, by omega⟩ : Fin 32) r l))

theorem unit0_at (lg : Fin 2) (st : Fin 4) (b : Fin 8) (r : Fin 8) (l : Fin 128) :
    (unit0 lg st b x0 x1 x2 x3 x4 x5).pt (ix2 r l) = unitPt x0 x1 x2 x3 x4 x5 kCode0 lg st b r l := by
  rw [unit0_pt]
  unfold unitPt kUnit
  rw [rowF_at, rowF_at, rowI_at]
  congr 1
  · show IntOp.cmpi .sgt (rowI (F := Ideal) lg x4 (ix2 r l)) 0#32 = _
    rw [rowI_at]
  · funext a; exact rowX_at st b x0 a r l
  · funext c; exact rowG_at lg st b x1 c r l

theorem unit1_at (lg : Fin 2) (st : Fin 4) (b : Fin 8) (r : Fin 8) (l : Fin 128) :
    (unit1 lg st b x0 x1 x2 x3 x4 x5).pt (ix2 r l) = unitPt x0 x1 x2 x3 x4 x5 kCode1 lg st b r l := by
  rw [unit1_pt]
  unfold unitPt kUnit
  rw [rowF_at, rowF_at, rowI_at]
  congr 1
  · show IntOp.cmpi .sgt (rowI (F := Ideal) lg x4 (ix2 r l)) 0#32 = _
    rw [rowI_at]
  · funext a; exact rowX_at st b x0 a r l
  · funext c; exact rowG_at lg st b x1 c r l

/-- The unit that computes element `b`, `ch`, `s` of a result block: channel `ch` is level `ch / 2`, feature `ch % 2`. -/
def blkPt (b : Fin 8) (ch : Fin 32) (s : Fin 512) : Pt :=
  kUnit (kCode (ch.val % 2)) x2 x3 x4 x5 ⟨ch.val / 2, by omega⟩ ⟨s.val % 128, by omega⟩
    (fun a => x0 (ix5 a (0 : Fin 1) (⟨s.val / 128, by omega⟩ : Fin 4) b (⟨s.val % 128, by omega⟩ : Fin 128)))
    (fun c => x1 (ix5 c (⟨ch.val / 16, by omega⟩ : Fin 2) (⟨s.val / 128 * 8 + b.val, by omega⟩ : Fin 32)
      (⟨ch.val / 2 % 8, by omega⟩ : Fin 8) (⟨s.val % 128, by omega⟩ : Fin 128)))

theorem blkPt_eq (lg : Fin 2) (st : Fin 4) (b : Fin 8) (q : Fin 16) (l : Fin 128) (ch : Fin 32) (s : Fin 512)
    (hch : ch.val = 16 * lg.val + q.val) (hs : s.val = 128 * st.val + l.val) :
    blkPt x0 x1 x2 x3 x4 x5 b ch s
      = unitPt x0 x1 x2 x3 x4 x5 (kCode (q.val % 2)) lg st b ⟨q.val / 2, by omega⟩ l := by
  have h1 : (⟨ch.val / 2, by omega⟩ : Fin 16) = ⟨8 * lg.val + q.val / 2, by omega⟩ := Fin.ext (by simp only; omega)
  have h2 : (⟨s.val % 128, by omega⟩ : Fin 128) = l := Fin.ext (by simp only; omega)
  have h3 : (⟨s.val / 128, by omega⟩ : Fin 4) = st := Fin.ext (by simp only; omega)
  have h4 : (⟨ch.val / 16, by omega⟩ : Fin 2) = lg := Fin.ext (by simp only; omega)
  have h5 : (⟨s.val / 128 * 8 + b.val, by omega⟩ : Fin 32) = ⟨st.val * 8 + b.val, by omega⟩ := Fin.ext (by simp only; omega)
  have h6 : (⟨ch.val / 2 % 8, by omega⟩ : Fin 8) = ⟨q.val / 2, by omega⟩ := Fin.ext (by simp only; omega)
  have h7 : ch.val % 2 = q.val % 2 := by omega
  unfold blkPt unitPt
  rw [h1, h2, h3, h4, h5, h6, h7]

/-! ## The rows of a piece -/

theorem rows_at (lo hi : FVec Ideal S8x128 .f32) (q : Fin 16) (l : Fin 128) :
    rows lo hi (ix2 q l) = if q.val % 2 = 0 then lo (ix2 (⟨q.val / 2, by omega⟩ : Fin 8) l)
      else hi (ix2 (⟨q.val / 2, by omega⟩ : Fin 8) l) := by
  pointwise [rows]

theorem encPiece_at (lg : Fin 2) (st : Fin 4) (b : Fin 8) (q : Fin 16) (l : Fin 128) :
    encPiece lg st b x0 x1 x2 x3 x4 x5 (ix3 (0 : Fin 1) q l)
      = (unitPt x0 x1 x2 x3 x4 x5 (kCode (q.val % 2)) lg st b ⟨q.val / 2, by omega⟩ l).enc := by
  have h : encPiece lg st b x0 x1 x2 x3 x4 x5 (ix3 (0 : Fin 1) q l)
      = rows (unit0 lg st b x0 x1 x2 x3 x4 x5).enc (unit1 lg st b x0 x1 x2 x3 x4 x5).enc (ix2 q l) := by
    unfold encPiece
    pointwise []
  rw [h, rows_at, enc_pt, enc_pt, unit0_at, unit1_at]
  unfold kCode
  split_ifs <;> rfl

theorem gradPiece_at (lg : Fin 2) (st : Fin 4) (b : Fin 8) (a : Fin 3) (q : Fin 16) (l : Fin 128) :
    gradPiece lg st b x0 x1 x2 x3 x4 x5 a (ix4 (0 : Fin 1) (0 : Fin 1) q l)
      = (unitPt x0 x1 x2 x3 x4 x5 (kCode (q.val % 2)) lg st b ⟨q.val / 2, by omega⟩ l).grad a := by
  have h : gradPiece lg st b x0 x1 x2 x3 x4 x5 a (ix4 (0 : Fin 1) (0 : Fin 1) q l)
      = rows ((unit0 lg st b x0 x1 x2 x3 x4 x5).grad a) ((unit1 lg st b x0 x1 x2 x3 x4 x5).grad a) (ix2 q l) := by
    unfold gradPiece
    pointwise []
  rw [h, rows_at, grad_pt, grad_pt, unit0_at, unit1_at]
  unfold kCode
  split_ifs <;> rfl

/-! ## The blocks -/

theorem encInb (lg : Fin 2) (st : Fin 4) (b : Fin 8) :
    ∀ a, (![b.val, 16 * lg.val, 128 * st.val] : Fin 3 → ℕ) a + S1x16x128.size a ≤ S8x32x512.size a := by
  intro a; fin_cases a <;> simp [Shape.size] <;> omega

theorem gradInb (lg : Fin 2) (st : Fin 4) (b : Fin 8) (d : Fin 3) :
    ∀ a, (![b.val, d.val, 16 * lg.val, 128 * st.val] : Fin 4 → ℕ) a + S1x1x16x128.size a ≤ S8x3x32x512.size a := by
  intro a; fin_cases a <;> simp [Shape.size] <;> omega

theorem encCover (b : Fin 8) (ch : Fin 32) (s : Fin 512) :
    ∃ k : Fin 64, ∀ a : Fin 3, (![(bOf k).val, 16 * (lgOf k).val, 128 * (stOf k).val] : Fin 3 → ℕ) a ≤ (ix3 b ch s : S8x32x512.Idx) a
      ∧ ((ix3 b ch s : S8x32x512.Idx) a : ℕ) < (![(bOf k).val, 16 * (lgOf k).val, 128 * (stOf k).val] : Fin 3 → ℕ) a + S1x16x128.size a := by
  refine ⟨⟨63 - (ch.val / 16 * 32 + s.val / 128 * 8 + b.val), by omega⟩, fun a => ?_⟩
  match a with
  | 0 => exact (show _ ≤ b.val ∧ b.val < _ + 1 from by simp; omega)
  | 1 => exact (show _ ≤ ch.val ∧ ch.val < _ + 16 from by simp; omega)
  | 2 => exact (show _ ≤ s.val ∧ s.val < _ + 128 from by simp; omega)

theorem gradCover (b : Fin 8) (d : Fin 3) (ch : Fin 32) (s : Fin 512) :
    ∃ k : Fin 192, ∀ a : Fin 4, (![(bOf (uOf k)).val, (aOf k).val, 16 * (lgOf (uOf k)).val, 128 * (stOf (uOf k)).val] : Fin 4 → ℕ) a
        ≤ (ix4 b d ch s : S8x3x32x512.Idx) a
      ∧ ((ix4 b d ch s : S8x3x32x512.Idx) a : ℕ)
        < (![(bOf (uOf k)).val, (aOf k).val, 16 * (lgOf (uOf k)).val, 128 * (stOf (uOf k)).val] : Fin 4 → ℕ) a + S1x1x16x128.size a := by
  refine ⟨⟨3 * (63 - (ch.val / 16 * 32 + s.val / 128 * 8 + b.val)) + (2 - d.val), by omega⟩, fun a => ?_⟩
  match a with
  | 0 => exact (show _ ≤ b.val ∧ b.val < _ + 1 from by simp; omega)
  | 1 => exact (show _ ≤ d.val ∧ d.val < _ + 1 from by simp; omega)
  | 2 => exact (show _ ≤ ch.val ∧ ch.val < _ + 16 from by simp; omega)
  | 3 => exact (show _ ≤ s.val ∧ s.val < _ + 128 from by simp; omega)

theorem encTile (b : Fin 8) (ch : Fin 32) (s : Fin 512) (k : Fin 64) (x : S1x16x128.Idx)
    (h0 : b.val = (bOf k).val + (x 0 : ℕ)) (h1 : ch.val = 16 * (lgOf k).val + (x 1 : ℕ)) (h2 : s.val = 128 * (stOf k).val + (x 2 : ℕ)) :
    encPiece (lgOf k) (stOf k) (bOf k) x0 x1 x2 x3 x4 x5 x = (blkPt x0 x1 x2 x3 x4 x5 b ch s).enc := by
  have hx : (x 0 : ℕ) < 1 := (x 0).isLt
  have hb : b = bOf k := Fin.ext (by omega)
  have ex : x = ix3 (0 : Fin 1) (x 1) (x 2) := by
    funext a
    match a with
    | 0 => exact Fin.ext (by show (x 0 : ℕ) = 0; omega)
    | 1 => rfl
    | 2 => rfl
  rw [hb, blkPt_eq x0 x1 x2 x3 x4 x5 (lgOf k) (stOf k) (bOf k) (x 1) (x 2) ch s h1 h2]
  exact (congrArg (encPiece (lgOf k) (stOf k) (bOf k) x0 x1 x2 x3 x4 x5) ex).trans
    (encPiece_at x0 x1 x2 x3 x4 x5 (lgOf k) (stOf k) (bOf k) (x 1) (x 2))

theorem gradTile (b : Fin 8) (d : Fin 3) (ch : Fin 32) (s : Fin 512) (k : Fin 192) (x : S1x1x16x128.Idx)
    (h0 : b.val = (bOf (uOf k)).val + (x 0 : ℕ)) (hd : d.val = (aOf k).val + (x 1 : ℕ))
    (h1 : ch.val = 16 * (lgOf (uOf k)).val + (x 2 : ℕ)) (h2 : s.val = 128 * (stOf (uOf k)).val + (x 3 : ℕ)) :
    gradPiece (lgOf (uOf k)) (stOf (uOf k)) (bOf (uOf k)) x0 x1 x2 x3 x4 x5 (aOf k) x = (blkPt x0 x1 x2 x3 x4 x5 b ch s).grad d := by
  have hx : (x 0 : ℕ) < 1 := (x 0).isLt
  have hx' : (x 1 : ℕ) < 1 := (x 1).isLt
  have hb : b = bOf (uOf k) := Fin.ext (by omega)
  have ha : d = aOf k := Fin.ext (by omega)
  have ex : x = ix4 (0 : Fin 1) (0 : Fin 1) (x 2) (x 3) := by
    funext a
    match a with
    | 0 => exact Fin.ext (by show (x 0 : ℕ) = 0; omega)
    | 1 => exact Fin.ext (by show (x 1 : ℕ) = 0; omega)
    | 2 => rfl
    | 3 => rfl
  rw [hb, ha, blkPt_eq x0 x1 x2 x3 x4 x5 (lgOf (uOf k)) (stOf (uOf k)) (bOf (uOf k)) (x 2) (x 3) ch s h1 h2]
  exact (congrArg (gradPiece (lgOf (uOf k)) (stOf (uOf k)) (bOf (uOf k)) x0 x1 x2 x3 x4 x5 (aOf k)) ex).trans
    (gradPiece_at x0 x1 x2 x3 x4 x5 (lgOf (uOf k)) (stOf (uOf k)) (bOf (uOf k)) (aOf k) (x 2) (x 3))

theorem out6_at (b : Fin 8) (ch : Fin 32) (s : Fin 512) :
    out0_6 x0 x1 x2 x3 x4 x5 (ix3 b ch s) = (blkPt x0 x1 x2 x3 x4 x5 b ch s).enc :=
  (congrFun (out6_eq x0 x1 x2 x3 x4 x5) (ix3 b ch s)).trans
    (View.canon_ofFn_unit_eq_of_forall (Val := Elt Ideal) (S := S8x32x512) (e := .bf16)
      (fun k : Fin 64 => ![(bOf k).val, 16 * (lgOf k).val, 128 * (stOf k).val]) S1x16x128.size
      (fun k => encInb (lgOf k) (stOf k) (bOf k))
      (fun k => encPiece (lgOf k) (stOf k) (bOf k) x0 x1 x2 x3 x4 x5) (ix3 b ch s) (blkPt x0 x1 x2 x3 x4 x5 b ch s).enc
      (encCover b ch s) (fun k x hx => encTile x0 x1 x2 x3 x4 x5 b ch s k x (hx 0) (hx 1) (hx 2)))

theorem out7_at (b : Fin 8) (d : Fin 3) (ch : Fin 32) (s : Fin 512) :
    out0_7 x0 x1 x2 x3 x4 x5 (ix4 b d ch s) = (blkPt x0 x1 x2 x3 x4 x5 b ch s).grad d :=
  (congrFun (out7_eq x0 x1 x2 x3 x4 x5) (ix4 b d ch s)).trans
    (View.canon_ofFn_unit_eq_of_forall (Val := Elt Ideal) (S := S8x3x32x512) (e := .bf16)
      (fun k : Fin 192 => ![(bOf (uOf k)).val, (aOf k).val, 16 * (lgOf (uOf k)).val, 128 * (stOf (uOf k)).val]) S1x1x16x128.size
      (fun k => gradInb (lgOf (uOf k)) (stOf (uOf k)) (bOf (uOf k)) (aOf k))
      (fun k => gradPiece (lgOf (uOf k)) (stOf (uOf k)) (bOf (uOf k)) x0 x1 x2 x3 x4 x5 (aOf k)) (ix4 b d ch s)
      (blkPt x0 x1 x2 x3 x4 x5 b ch s |>.grad d)
      (gradCover b d ch s) (fun k x hx => gradTile x0 x1 x2 x3 x4 x5 b d ch s k x (hx 0) (hx 1) (hx 2) (hx 3)))

end

end Cert.KernelIdeal.Interp

end
-- ==== Proof.Array.lean ====
/- The kernel's blocks at an index, read from the arguments, and the two arrays the launch leaves. -/
module

public import proofs.«01_k».proof.Proof.Block
public import proofs.«01_k».proof.Proof.Gen.KernelIdeal.Frame
public import Idealize.ShloMosaic.Lib.Pipeline.ValueKit

@[expose] public section

set_option maxRecDepth 16384

noncomputable section

namespace Cert.KernelIdeal.Interp

open Idealize.ShloMosaic Idealize.ShloMosaic.TcCoe Idealize.SL.Sem Cert.KernelIdeal Cert.KernelIdeal.Gen Cert.Grid
open Idealize.ShloMosaic.Pipeline (Dat)

variable (m : (ℓ : Loc nD τ sig) → Buf (Elt Ideal) ℓ) (c : Dev nD) (t : Fin cfg0.N)

theorem idx : ∀ t : Fin cfg0.N, win0_0.index t = ![0, t.val / 40, t.val % 40, 0, 0] ∧ win0_1.index t = ![0, 0, t.val, 0, 0]
    ∧ win0_2.index t = ![0, 0] ∧ win0_3.index t = ![0, 0] ∧ win0_4.index t = ![0, 0] ∧ win0_5.index t = ![0, 0]
    ∧ win0_6.index t = ![t.val / 40, 0, t.val % 40] ∧ win0_7.index t = ![t.val / 40, 0, 0, t.val % 40] ∧ t.val < 240 :=
  (by decide +kernel : ∀ t : Fin grid0.N, _)

/-- The arguments, at their types. -/
def posn : FVec Ideal S48x20480x3 .f32 := m ((c : Thread nD τ).loc main_arg0)
def hashed : IVec S8x2x7680x8x128 32 := m ((c : Thread nD τ).loc main_arg1)
def scal : FVec Ideal S16 .f32 := m ((c : Thread nD τ).loc main_arg2)

theorem tLt (t : Fin cfg0.N) : t.val < 240 := (idx t).2.2.2.2.2.2.2.2

theorem rm16 (l : Fin 16) : S16.rowMajor (ix1 l) = l := by
  fin_cases l <;> rfl

theorem move_at (x : FVec Ideal S48x20480x3 .f32) (a : Fin 3) (i : Fin 6) (r : Fin 160) (b : Fin 8) (l : Fin 128) :
    transpose S3x6x160x8x128 [0, 1, 3, 2, 4]
      (shapeCast S3x6x8x160x128 (transpose S3x48x20480 [2, 0, 1] x transposes_S48x20480x3_S3x48x20480_2_0_1)
        shapeCasts_S3x48x20480_S3x6x8x160x128)
      transposes_S3x6x8x160x128_S3x6x160x8x128_0_1_3_2_4 (ix5 a i r b l)
      = x (ix3 (⟨i.val * 8 + b.val, by omega⟩ : Fin 48) (⟨r.val * 128 + l.val, by omega⟩ : Fin 20480) a) := by
  pointwise []

theorem wide_at {α : Type} (x : S16.Idx → α) (lv : Fin 16) (l : Fin 128) :
    broadcastInDim S16x128 ![0, 1] bcast_S16x1_S16x128_0_1 (broadcastInDim S16x1 ![0] bcast_S16_S16x1_0 x) (ix2 lv l)
      = x (ix1 lv) := by
  pointwise []

theorem v2_at (a : Fin 3) (i : Fin 6) (r : Fin 160) (b : Fin 8) (l : Fin 128) :
    (V m c main_v2 : FVec Ideal S3x6x160x8x128 .f32) (ix5 a i r b l)
      = posn m c (ix3 (⟨i.val * 8 + b.val, by omega⟩ : Fin 48) (⟨r.val * 128 + l.val, by omega⟩ : Fin 20480) a) := by
  simp only [V, V0, hostOps0, List.flatten_cons, List.flatten_nil, List.append_nil, StableHlo.after_cons, StableHlo.after_nil]
  after_results_simp
  exact move_at (posn m c) a i r b l

theorem v4_at (lv : Fin 16) (l : Fin 128) : (V m c main_v4 : FVec Ideal S16x128 .f32) (ix2 lv l) = Ideal.ofBits .f32 (lit0 lv) := by
  simp only [V, V0, hostOps0, List.flatten_cons, List.flatten_nil, List.append_nil, StableHlo.after_cons, StableHlo.after_nil]
  after_results_simp
  exact wide_at _ lv l |>.trans (congrArg (fun k => Ideal.ofBits .f32 (lit0 k)) (rm16 lv))

theorem v6_at (lv : Fin 16) (l : Fin 128) : (V m c main_v6 : FVec Ideal S16x128 .f32) (ix2 lv l) = scal m c (ix1 lv) := by
  simp only [V, V0, hostOps0, List.flatten_cons, List.flatten_nil, List.append_nil, StableHlo.after_cons, StableHlo.after_nil]
  after_results_simp
  exact wide_at (scal m c) lv l

theorem v8_at (lv : Fin 16) (l : Fin 128) : (V m c main_v8 : IVec S16x128 32) (ix2 lv l) = lit1 lv := by
  simp only [V, V0, hostOps0, List.flatten_cons, List.flatten_nil, List.append_nil, StableHlo.after_cons, StableHlo.after_nil]
  after_results_simp
  exact wide_at _ lv l |>.trans (congrArg lit1 (rm16 lv))

theorem v10_at (lv : Fin 16) (l : Fin 128) : (V m c main_v10 : IVec S16x128 32) (ix2 lv l) = lit2 lv := by
  simp only [V, V0, hostOps0, List.flatten_cons, List.flatten_nil, List.append_nil, StableHlo.after_cons, StableHlo.after_nil]
  after_results_simp
  exact wide_at _ lv l |>.trans (congrArg lit2 (rm16 lv))

theorem read0 (a : Fin 3) (q : Fin 4) (b : Fin 8) (l : Fin 128) :
    iblk m c 0 t (ix5 a (0 : Fin 1) q b l) = (V m c main_v2 : FVec Ideal S3x6x160x8x128 .f32)
      (ix5 a (⟨t.val / 40, by have := tLt t; omega⟩ : Fin 6) (⟨t.val % 40 * 4 + q.val, by omega⟩ : Fin 160) b l) := by
  blk_ext [iblk, idx t]

theorem read1 (k : Fin 8) (h : Fin 2) (r : Fin 32) (d : Fin 8) (l : Fin 128) :
    iblk m c 1 t (ix5 k h r d l)
      = hashed m c (ix5 k h (⟨t.val * 32 + r.val, by have := tLt t; omega⟩ : Fin 7680) d l) := by
  unfold hashed
  blk_ext [iblk, V, idx t]

theorem read2 (lv : Fin 16) (l : Fin 128) : iblk m c 2 t (ix2 lv l) = (V m c main_v4 : FVec Ideal S16x128 .f32) (ix2 lv l) := by
  blk_ext [iblk, idx t]
theorem read3 (lv : Fin 16) (l : Fin 128) : iblk m c 3 t (ix2 lv l) = (V m c main_v6 : FVec Ideal S16x128 .f32) (ix2 lv l) := by
  blk_ext [iblk, idx t]
theorem read4 (lv : Fin 16) (l : Fin 128) : iblk m c 4 t (ix2 lv l) = (V m c main_v8 : IVec S16x128 32) (ix2 lv l) := by
  blk_ext [iblk, idx t]
theorem read5 (lv : Fin 16) (l : Fin 128) : iblk m c 5 t (ix2 lv l) = (V m c main_v10 : IVec S16x128 32) (ix2 lv l) := by
  blk_ext [iblk, idx t]

/-- The unit of a point and a channel, from the arguments. -/
def arrPt (x : FVec Ideal S48x20480x3 .f32) (g : IVec S8x2x7680x8x128 32) (sc : FVec Ideal S16 .f32)
    (b : Fin 48) (ch : Fin 32) (s : Fin 20480) : Pt :=
  kPt (kCode (ch.val % 2)) (Ideal.ofBits .f32 (lit0 ⟨ch.val / 2, by omega⟩)) (sc (ix1 (⟨ch.val / 2, by omega⟩ : Fin 16)))
    (IntOp.cmpi .sgt (lit1 ⟨ch.val / 2, by omega⟩) 0#32) (lit2 ⟨ch.val / 2, by omega⟩)
    (fun a => x (ix3 b s a))
    (fun k => g (ix5 k (⟨ch.val / 16, by omega⟩ : Fin 2) (⟨(b.val / 8 * 160 + s.val / 128) * 8 + b.val % 8, by omega⟩ : Fin 7680)
      (⟨ch.val / 2 % 8, by omega⟩ : Fin 8) (⟨s.val % 128, by omega⟩ : Fin 128)))

theorem kPt_congr {code : BitVec 32 → BitVec 32} {nf nf' sc sc' : EReal} {d d' n1 n1' : BitVec 32} {x x' : Fin 3 → EReal} {w w' : Fin 8 → BitVec 32}
    (h1 : nf = nf') (h2 : sc = sc') (h3 : d = d') (h4 : n1 = n1') (h5 : ∀ a, x a = x' a) (h6 : ∀ k, w k = w' k) :
    kPt code nf sc (IntOp.cmpi .sgt d 0#32) n1 x w = kPt code nf' sc' (IntOp.cmpi .sgt d' 0#32) n1' x' w' := by
  have e5 : x = x' := funext h5
  have e6 : w = w' := funext h6
  subst h1 h2 h3 h4 e5 e6
  rfl

theorem blk_at (b : Fin 8) (ch : Fin 32) (s : Fin 512) :
    blkPt (iblk m c 0 t) (iblk m c 1 t) (iblk m c 2 t) (iblk m c 3 t) (iblk m c 4 t) (iblk m c 5 t) b ch s
      = arrPt (posn m c) (hashed m c) (scal m c) (⟨t.val / 40 * 8 + b.val, by have := tLt t; omega⟩ : Fin 48) ch
          (⟨t.val % 40 * 512 + s.val, by omega⟩ : Fin 20480) := by
  have ht := tLt t
  unfold blkPt kUnit arrPt
  refine kPt_congr ((read2 m c t _ _).trans (v4_at m c _ _)) ((read3 m c t _ _).trans (v6_at m c _ _))
    ((read4 m c t _ _).trans (v8_at m c _ _)) ((read5 m c t _ _).trans (v10_at m c _ _)) (fun a => ?_) (fun k => ?_)
  · refine ((read0 m c t _ _ _ _).trans (v2_at m c _ _ _ _ _)).trans (congrArg (posn m c) ?_)
    blk_ext []
  · refine (read1 m c t _ _ _ _ _).trans (congrArg (hashed m c) ?_)
    blk_ext []

theorem arrPt_congr (x : FVec Ideal S48x20480x3 .f32) (g : IVec S8x2x7680x8x128 32) (sc : FVec Ideal S16 .f32)
    {b b' : Fin 48} {ch ch' : Fin 32} {s s' : Fin 20480} (hb : b = b') (hc : ch = ch') (hs : s = s') :
    arrPt x g sc b ch s = arrPt x g sc b' ch' s' := by
  subst hb hc hs
  rfl

theorem grad_congr {p q : Pt} {d d' : Fin 3} (h : p = q) (hd : d = d') : p.grad d = q.grad d' := by
  subst h hd
  rfl

theorem enc_point (y : S8x32x512.Idx) (b : Fin 48) (ch : Fin 32) (s : Fin 20480) (h0 : b.val = t.val / 40 * 8 + (y 0 : ℕ))
    (h1 : ch.val = (y 1 : ℕ)) (h2 : s.val = t.val % 40 * 512 + (y 2 : ℕ)) :
    out0_6 (iblk m c 0 t) (iblk m c 1 t) (iblk m c 2 t) (iblk m c 3 t) (iblk m c 4 t) (iblk m c 5 t) y
      = (arrPt (posn m c) (hashed m c) (scal m c) b ch s).enc := by
  have ey : y = ix3 (y 0) (y 1) (y 2) := by
    funext a
    match a with
    | 0 => rfl
    | 1 => rfl
    | 2 => rfl
  exact (congrArg (out0_6 (iblk m c 0 t) (iblk m c 1 t) (iblk m c 2 t) (iblk m c 3 t) (iblk m c 4 t) (iblk m c 5 t)) ey).trans
    ((out6_at _ _ _ _ _ _ (y 0) (y 1) (y 2)).trans (congrArg Pt.enc ((blk_at m c t (y 0) (y 1) (y 2)).trans
      (arrPt_congr _ _ _ (Fin.ext h0.symm) (Fin.ext h1.symm) (Fin.ext h2.symm)))))

theorem grad_point (y : S8x3x32x512.Idx) (b : Fin 48) (d : Fin 3) (ch : Fin 32) (s : Fin 20480)
    (h0 : b.val = t.val / 40 * 8 + (y 0 : ℕ)) (hd : d.val = (y 1 : ℕ))
    (h1 : ch.val = (y 2 : ℕ)) (h2 : s.val = t.val % 40 * 512 + (y 3 : ℕ)) :
    out0_7 (iblk m c 0 t) (iblk m c 1 t) (iblk m c 2 t) (iblk m c 3 t) (iblk m c 4 t) (iblk m c 5 t) y
      = (arrPt (posn m c) (hashed m c) (scal m c) b ch s).grad d := by
  have ey : y = ix4 (y 0) (y 1) (y 2) (y 3) := by
    funext a
    match a with
    | 0 => rfl
    | 1 => rfl
    | 2 => rfl
    | 3 => rfl
  exact (congrArg (out0_7 (iblk m c 0 t) (iblk m c 1 t) (iblk m c 2 t) (iblk m c 3 t) (iblk m c 4 t) (iblk m c 5 t)) ey).trans
    ((out7_at _ _ _ _ _ _ (y 0) (y 1) (y 2) (y 3)).trans (grad_congr ((blk_at m c t (y 0) (y 2) (y 3)).trans
      (arrPt_congr _ _ _ (Fin.ext h0.symm) (Fin.ext h1.symm) (Fin.ext h2.symm))) (Fin.ext hd.symm)))

theorem encArr : (dats m 0 c).arrAt 6 (cfgs 0).N
    = ((fun i => (arrPt (posn m c) (hashed m c) (scal m c) (i 0) (i 1) (i 2)).enc : S48x32x20480.Idx → EReal)
      : FVec Ideal S48x32x20480 .bf16) := by
  refine (dats m 0 c).arrAt_eq_of_covers 6 _ (by decide +kernel) fun t hf y => ?_
  blk_simp
  rw [after0_6]
  refine enc_point m c t y _ _ _ ?_ ?_ ?_
  all_goals (blk_simp [idx t] <;> try omega)

theorem gradArr : (dats m 0 c).arrAt 7 (cfgs 0).N
    = ((fun i => (arrPt (posn m c) (hashed m c) (scal m c) (i 0) (i 2) (i 3)).grad (i 1) : S48x3x32x20480.Idx → EReal)
      : FVec Ideal S48x3x32x20480 .bf16) := by
  refine (dats m 0 c).arrAt_eq_of_covers 7 _ (by decide +kernel) fun t hf y => ?_
  blk_simp
  rw [after0_7]
  refine grad_point m c t y _ _ _ _ ?_ ?_ ?_ ?_
  all_goals (blk_simp [idx t] <;> try omega)

end Cert.KernelIdeal.Interp

end
-- ==== Proof.Ref.lean ====
/- The reference's result arrays as named steps, and every step at an index. -/
module

public import proofs.«01_k».proof.Proof.Gen.ReferenceIdeal.Run
public import proofs.«01_k».proof.Proof.Point
public import Idealize.ShloMosaic.Lib.Pipeline.ValueKit
public import Idealize.ShloMosaic.Lib.IdealHost

@[expose] public section

set_option maxRecDepth 16384

noncomputable section

namespace Cert.ReferenceIdeal.Steps

open Idealize.ShloMosaic Cert.ReferenceIdeal Cert.ReferenceIdeal.Gen Cert.Grid

variable (x : FVec Ideal S48x20480x3 .f32) (g : IVec S8x2x7680x8x128 32) (s : FVec Ideal S16 .f32)

/-! ## The steps -/

/-- The fetched word of every level, corner, row and point. -/
def words : IVec S16x8x48x20480 32 :=
  shapeCast _ (transpose S16x8x6x8x160x128 [0, 1, 2, 4, 3, 5] (shapeCast S16x8x6x160x8x128
    (transpose S2x8x8x7680x128 [1, 3, 0, 2, 4] g transposes_S8x2x7680x8x128_S2x8x8x7680x128_1_3_0_2_4)
    shapeCasts_S2x8x8x7680x128_S16x8x6x160x8x128) transposes_S16x8x6x160x8x128_S16x8x6x8x160x128_0_1_2_4_3_5)
    shapeCasts_S16x8x6x8x160x128_S16x8x48x20480

/-- The number of cells along an axis, per level. -/
def nf : FVec Ideal S16x1x1x1 .f32 := shapeCast _ (fun i => FloatOps.ofBits .f32 (lit0 (S16.rowMajor i))) shapeCasts_S16_S16x1x1x1

def n1 : IVec S16x1x1x1 32 := shapeCast _ (fun i => lit2 (S16.rowMajor i)) shapeCasts_S16_S16x1x1x1

/-- The positions. -/
def pos : FVec Ideal S16x3x48x20480 .f32 :=
  mulf (broadcastInDim S16x3x48x20480 ![0, 1, 2, 3] bcast_S1x3x48x20480_S16x3x48x20480_0_1_2_3
      (broadcastInDim S1x3x48x20480 ![1, 2, 3] bcast_S3x48x20480_S1x3x48x20480_1_2_3
        (transpose S3x48x20480 [2, 0, 1] x transposes_S48x20480x3_S3x48x20480_2_0_1)))
    (broadcastInDim S16x3x48x20480 ![0, 1, 2, 3] bcast_S16x1x1x1_S16x3x48x20480_0_1_2_3 nf)

/-- The cells' corners. -/
def base : IVec S16x3x48x20480 32 :=
  fptosi 32 (minimumf (Host.floor (pos x)) (broadcastInDim S16x3x48x20480 ![0, 1, 2, 3] bcast_S16x1x1x1_S16x3x48x20480_0_1_2_3
    (subf nf (broadcastInDim S16x1x1x1 ![] bcast_S_S16x1x1x1 (constant S_ .f32 0x3F800000#32)))))

/-- The fractions. -/
def frac : FVec Ideal S16x3x48x20480 .f32 := subf (pos x) (sitofp .f32 (base x))

/-- The corners' bits. -/
def bits : IVec S1x8x3x1x1 32 :=
  broadcastInDim S1x8x3x1x1 ![1, 2] bcast_S8x3_S1x8x3x1x1_1_2 (fun i => lit1 (S8x3.rowMajor i))

/-- The corners. -/
def cells : IVec S16x8x3x48x20480 32 :=
  addi (broadcastInDim S16x8x3x48x20480 ![0, 1, 2, 3, 4] bcast_S16x1x3x48x20480_S16x8x3x48x20480_0_1_2_3_4
      (broadcastInDim S16x1x3x48x20480 ![0, 2, 3, 4] bcast_S16x3x48x20480_S16x1x3x48x20480_0_2_3_4 (base x)))
    (broadcastInDim S16x8x3x48x20480 ![0, 1, 2, 3, 4] bcast_S1x8x3x1x1_S16x8x3x48x20480_0_1_2_3_4 bits)

/-- The axes of an array over corners and axes. -/
def ax0 {α : Type} (v : S16x8x3x48x20480.Idx → α) : S16x8x48x20480.Idx → α :=
  shapeCast _ (extractStridedSlice S16x8x1x48x20480 ![0, 0, 0, 0, 0] v slices_S16x8x3x48x20480_S16x8x1x48x20480_0_0_0_0_0)
    shapeCasts_S16x8x1x48x20480_S16x8x48x20480
def ax1 {α : Type} (v : S16x8x3x48x20480.Idx → α) : S16x8x48x20480.Idx → α :=
  shapeCast _ (extractStridedSlice S16x8x1x48x20480 ![0, 0, 1, 0, 0] v slices_S16x8x3x48x20480_S16x8x1x48x20480_0_0_1_0_0)
    shapeCasts_S16x8x1x48x20480_S16x8x48x20480
def ax2 {α : Type} (v : S16x8x3x48x20480.Idx → α) : S16x8x48x20480.Idx → α :=
  shapeCast _ (extractStridedSlice S16x8x1x48x20480 ![0, 0, 2, 0, 0] v slices_S16x8x3x48x20480_S16x8x1x48x20480_0_0_2_0_0)
    shapeCasts_S16x8x1x48x20480_S16x8x48x20480

/-- A word on every corner. -/
def con (k : BitVec 32) : IVec S16x8x48x20480 32 :=
  broadcastInDim S16x8x48x20480 ![] bcast_S_S16x8x48x20480 (constantI S_ 32 k)

def linear : IVec S16x8x48x20480 32 :=
  addi (ax0 (cells x)) (muli (broadcastInDim S16x8x48x20480 ![0, 1, 2, 3] bcast_S16x1x1x1_S16x8x48x20480_0_1_2_3 n1)
    (addi (ax1 (cells x)) (muli (broadcastInDim S16x8x48x20480 ![0, 1, 2, 3] bcast_S16x1x1x1_S16x8x48x20480_0_1_2_3 n1)
      (ax2 (cells x)))))

def hash : IVec S16x8x48x20480 32 :=
  andi (xori (xori (muli (ax0 (cells x)) (con 1#32)) (muli (ax1 (cells x)) (con 2654435761#32)))
    (muli (ax2 (cells x)) (con 805459861#32))) (con 1048575#32)

/-- The table index of every corner. -/
def index : IVec S16x8x48x20480 32 :=
  select (broadcastInDim S16x8x48x20480 ![0, 1, 2, 3] bcast_S16x1x1x1_S16x8x48x20480_0_1_2_3
    (shapeCast S16x1x1x1 (fun i => lit3 (S16.rowMajor i)) shapeCasts_S16_S16x1x1x1)) (linear x) (hash x)

/-- The words shifted to their entries. -/
def entry : IVec S16x8x48x20480 32 :=
  Host.shrsi (words g) (muli (con 16#32) (andi (index x) (con 1#32)))

def code0 : FVec Ideal S16x8x48x20480 .f32 := sitofp .f32 (Host.shrsi (Host.shli (entry x g) (con 24#32)) (con 24#32))
def code1 : FVec Ideal S16x8x48x20480 .f32 := sitofp .f32 (Host.shrsi (Host.shli (entry x g) (con 16#32)) (con 24#32))

/-- A weight's factors. -/
def factors : FVec Ideal S16x8x3x48x20480 .f32 :=
  select (broadcastInDim S16x8x3x48x20480 ![0, 1, 2, 3, 4] bcast_S1x8x3x1x1_S16x8x3x48x20480_0_1_2_3_4
      (cmpi .eq bits (broadcastInDim S1x8x3x1x1 ![] bcast_S_S1x8x3x1x1 (constantI S_ 32 1#32))))
    (broadcastInDim S16x8x3x48x20480 ![0, 1, 2, 3, 4] bcast_S16x1x3x48x20480_S16x8x3x48x20480_0_1_2_3_4
      (broadcastInDim S16x1x3x48x20480 ![0, 2, 3, 4] bcast_S16x3x48x20480_S16x1x3x48x20480_0_2_3_4 (frac x)))
    (broadcastInDim S16x8x3x48x20480 ![0, 1, 2, 3, 4] bcast_S16x1x3x48x20480_S16x8x3x48x20480_0_1_2_3_4
      (subf (broadcastInDim S16x1x3x48x20480 ![] bcast_S_S16x1x3x48x20480 (constant S_ .f32 0x3F800000#32))
        (broadcastInDim S16x1x3x48x20480 ![0, 2, 3, 4] bcast_S16x3x48x20480_S16x1x3x48x20480_0_2_3_4 (frac x))))

def weights : FVec Ideal S16x8x48x20480 .f32 := mulf (mulf (ax0 (factors x)) (ax1 (factors x))) (ax2 (factors x))

/-- The products of two factors, one per axis left out. -/
def rest0 : FVec Ideal S16x8x48x20480 .f32 := mulf (ax1 (factors x)) (ax2 (factors x))
def rest1 : FVec Ideal S16x8x48x20480 .f32 := mulf (ax0 (factors x)) (ax2 (factors x))
def rest2 : FVec Ideal S16x8x48x20480 .f32 := mulf (ax0 (factors x)) (ax1 (factors x))

/-- The weights' derivatives, without their signs. -/
def rests : FVec Ideal S16x8x3x48x20480 .f32 :=
  concatenate S16x8x3x48x20480 2
    [⟨S16x8x1x48x20480, broadcastInDim S16x8x1x48x20480 ![0, 1, 3, 4] bcast_S16x8x48x20480_S16x8x1x48x20480_0_1_3_4 (rest0 x)⟩,
     ⟨S16x8x1x48x20480, broadcastInDim S16x8x1x48x20480 ![0, 1, 3, 4] bcast_S16x8x48x20480_S16x8x1x48x20480_0_1_3_4 (rest1 x)⟩,
     ⟨S16x8x1x48x20480, broadcastInDim S16x8x1x48x20480 ![0, 1, 3, 4] bcast_S16x8x48x20480_S16x8x1x48x20480_0_1_3_4 (rest2 x)⟩]
    concatenates_S16x8x1x48x20480_S16x8x1x48x20480_S16x8x1x48x20480_S16x8x3x48x20480_d2

def signs : FVec Ideal S1x8x3x1x1 .f32 :=
  sitofp .f32 (subi (muli (broadcastInDim S1x8x3x1x1 ![] bcast_S_S1x8x3x1x1 (constantI S_ 32 2#32)) bits)
    (broadcastInDim S1x8x3x1x1 ![] bcast_S_S1x8x3x1x1 (constantI S_ 32 1#32)))

def slopes : FVec Ideal S16x8x3x48x20480 .f32 :=
  mulf (broadcastInDim S16x8x3x48x20480 ![0, 1, 2, 3, 4] bcast_S1x8x3x1x1_S16x8x3x48x20480_0_1_2_3_4 signs) (rests x)

/-- One feature's encoding, from its codes. -/
def enc (v : FVec Ideal S16x8x48x20480 .f32) : FVec Ideal S16x48x20480 .f32 :=
  mulf (Host.reduceAdd (mulf (weights x) v) (constant S_ .f32 0x00000000#32) reducesTo_S16x8x48x20480_S16x48x20480_d1 h_S_)
    (broadcastInDim S16x48x20480 ![0, 1, 2] bcast_S16x1x1_S16x48x20480_0_1_2 (shapeCast S16x1x1 s shapeCasts_S16_S16x1x1))

/-- One feature's gradient, from its codes. -/
def grad (v : FVec Ideal S16x8x48x20480 .f32) : FVec Ideal S16x3x48x20480 .f32 :=
  mulf (broadcastInDim S16x3x48x20480 ![0, 1, 2, 3] bcast_S16x1x1x1_S16x3x48x20480_0_1_2_3
      (shapeCast S16x1x1x1 (mulf s (fun i => FloatOps.ofBits .f32 (lit4 (S16.rowMajor i)))) shapeCasts_S16_S16x1x1x1))
    (Host.reduceAdd (mulf (slopes x)
      (broadcastInDim S16x8x3x48x20480 ![0, 1, 2, 3, 4] bcast_S16x8x1x48x20480_S16x8x3x48x20480_0_1_2_3_4
        (broadcastInDim S16x8x1x48x20480 ![0, 1, 3, 4] bcast_S16x8x48x20480_S16x8x1x48x20480_0_1_3_4 v)))
      (constant S_ .f32 0x00000000#32) reducesTo_S16x8x3x48x20480_S16x3x48x20480_d1 h_S_)

/-- The two results. -/
def encOut : FVec Ideal S48x20480x32 .bf16 :=
  shapeCast _ (transpose S48x20480x16x2 [1, 2, 0, 3] (truncf .bf16 (concatenate S16x48x20480x2 3
    [⟨S16x48x20480x1, broadcastInDim S16x48x20480x1 ![0, 1, 2] bcast_S16x48x20480_S16x48x20480x1_0_1_2 (enc x s (code0 x g))⟩,
     ⟨S16x48x20480x1, broadcastInDim S16x48x20480x1 ![0, 1, 2] bcast_S16x48x20480_S16x48x20480x1_0_1_2 (enc x s (code1 x g))⟩]
    concatenates_S16x48x20480x1_S16x48x20480x1_S16x48x20480x2_d3) bitsLt_bf16_f32)
    transposes_S16x48x20480x2_S48x20480x16x2_1_2_0_3) shapeCasts_S48x20480x16x2_S48x20480x32

def gradOut : FVec Ideal S48x20480x3x32 .bf16 :=
  shapeCast _ (transpose S48x20480x3x16x2 [2, 3, 1, 0, 4] (truncf .bf16 (concatenate S16x3x48x20480x2 4
    [⟨S16x3x48x20480x1, broadcastInDim S16x3x48x20480x1 ![0, 1, 2, 3] bcast_S16x3x48x20480_S16x3x48x20480x1_0_1_2_3 (grad x s (code0 x g))⟩,
     ⟨S16x3x48x20480x1, broadcastInDim S16x3x48x20480x1 ![0, 1, 2, 3] bcast_S16x3x48x20480_S16x3x48x20480x1_0_1_2_3 (grad x s (code1 x g))⟩]
    concatenates_S16x3x48x20480x1_S16x3x48x20480x1_S16x3x48x20480x2_d4) bitsLt_bf16_f32)
    transposes_S16x3x48x20480x2_S48x20480x3x16x2_2_3_1_0_4) shapeCasts_S48x20480x3x16x2_S48x20480x3x32

end Cert.ReferenceIdeal.Steps

end
-- ==== Proof.RefAt.lean ====
/- Every step of Ref.lean at an index: the formulas of Point.lean at the arguments' elements. -/
module

public import proofs.«01_k».proof.Proof.Ref

@[expose] public section

set_option maxRecDepth 16384

noncomputable section

namespace Cert.ReferenceIdeal.Steps

open Idealize.ShloMosaic Cert.ReferenceIdeal Cert.ReferenceIdeal.Gen Cert.Grid

variable (x : FVec Ideal S48x20480x3 .f32) (g : IVec S8x2x7680x8x128 32) (s : FVec Ideal S16 .f32)
variable (l : Fin 16) (c : Fin 8) (a : Fin 3) (b : Fin 48) (t : Fin 20480)

/-- The number of cells of a level. -/
def rnf (l : Fin 16) : EReal := Ideal.ofBits .f32 (lit0 l)

theorem rm16 (l : Fin 16) : S16.rowMajor (ix1 l) = l := by
  fin_cases l <;> rfl

theorem nf_at : nf (ix4 l (0 : Fin 1) (0 : Fin 1) (0 : Fin 1)) = rnf l := by
  pointwise [nf, rm16]; rfl

theorem n1_at : n1 (ix4 l (0 : Fin 1) (0 : Fin 1) (0 : Fin 1)) = lit2 l := by
  pointwise [n1, rm16]

theorem pos_at : pos x (ix4 l a b t) = x (ix3 b t a) * rnf l := by
  rw [← nf_at]; pointwise [pos]

theorem base_at : base x (ix4 l a b t) = icell (rnf l) (x (ix3 b t a)) := by
  unfold icell cell
  rw [← pos_at, ← nf_at]
  pointwise [base]
  rfl

theorem frac_at : frac x (ix4 l a b t) = rFrac (rnf l) (x (ix3 b t a)) := by
  unfold rFrac num
  rw [← pos_at, ← base_at]
  pointwise [frac]
  rfl

theorem lit1_at (c : Fin 8) (a : Fin 3) : lit1 (S8x3.rowMajor (ix2 c a)) = bit c a := by
  revert c a; decide

theorem bits_at : bits (ix5 (0 : Fin 1) c a (0 : Fin 1) (0 : Fin 1)) = bit c a := by
  rw [← lit1_at]; pointwise [bits]

theorem cells_at : cells x (ix5 l c a b t) = icell (rnf l) (x (ix3 b t a)) + bit c a := by
  rw [← base_at, ← bits_at]; pointwise [cells]; rfl

theorem ax0_at {α : Type} (v : S16x8x3x48x20480.Idx → α) : ax0 v (ix4 l c b t) = v (ix5 l c (0 : Fin 3) b t) := by
  pointwise [ax0]
theorem ax1_at {α : Type} (v : S16x8x3x48x20480.Idx → α) : ax1 v (ix4 l c b t) = v (ix5 l c (1 : Fin 3) b t) := by
  pointwise [ax1]
theorem ax2_at {α : Type} (v : S16x8x3x48x20480.Idx → α) : ax2 v (ix4 l c b t) = v (ix5 l c (2 : Fin 3) b t) := by
  pointwise [ax2]

theorem words_at : words g (ix4 l c b t)
    = g (ix5 c (⟨l.val / 8, by omega⟩ : Fin 2) (⟨(b.val / 8 * 160 + t.val / 128) * 8 + b.val % 8, by omega⟩ : Fin 7680)
        (⟨l.val % 8, by omega⟩ : Fin 8) (⟨t.val % 128, by omega⟩ : Fin 128)) := by
  pointwise [words]
  blk_ext []

theorem con_at (k : BitVec 32) : con k (ix4 l c b t) = k := by pointwise [con]

/-- The table index of corner `c` of the cell that holds a point. -/
def idxAt : BitVec 32 :=
  rIdx (lit3 l) (lit2 l) (icell (rnf l) (x (ix3 b t (0 : Fin 3))) + bit c 0) (icell (rnf l) (x (ix3 b t (1 : Fin 3))) + bit c 1)
    (icell (rnf l) (x (ix3 b t (2 : Fin 3))) + bit c 2)

theorem linear_at : linear x (ix4 l c b t)
    = (icell (rnf l) (x (ix3 b t (0 : Fin 3))) + bit c 0) + lit2 l * ((icell (rnf l) (x (ix3 b t (1 : Fin 3))) + bit c 1)
        + lit2 l * (icell (rnf l) (x (ix3 b t (2 : Fin 3))) + bit c 2)) := by
  rw [← cells_at, ← cells_at, ← cells_at, ← ax0_at l c b t (cells x), ← ax1_at l c b t (cells x), ← ax2_at l c b t (cells x), ← n1_at]
  pointwise [linear]
  simp only [IntOp.andi, IntOp.xori, IntOp.muli, IntOp.addi]

theorem hash_at : hash x (ix4 l c b t)
    = (((icell (rnf l) (x (ix3 b t (0 : Fin 3))) + bit c 0) * 1#32 ^^^ (icell (rnf l) (x (ix3 b t (1 : Fin 3))) + bit c 1) * 2654435761#32)
        ^^^ (icell (rnf l) (x (ix3 b t (2 : Fin 3))) + bit c 2) * 805459861#32) &&& 1048575#32 := by
  rw [← cells_at, ← cells_at, ← cells_at, ← ax0_at l c b t (cells x), ← ax1_at l c b t (cells x), ← ax2_at l c b t (cells x)]
  pointwise [hash, con]
  simp only [IntOp.andi, IntOp.xori, IntOp.muli, IntOp.addi]

theorem index_at : index x (ix4 l c b t) = idxAt x l c b t := by
  unfold idxAt rIdx
  rw [← linear_at, ← hash_at]
  pointwise [index, rm16]

theorem entry_at : entry x g (ix4 l c b t) = rWord (idxAt x l c b t) (words g (ix4 l c b t)) := by
  unfold rWord
  rw [← index_at]
  pointwise [entry, con]
  try simp only [IntOp.andi, IntOp.muli]

/-- The value of corner `c`, read by `code`. -/
def valAt (code : BitVec 32 → BitVec 32) : EReal := num (code (rWord (idxAt x l c b t) (words g (ix4 l c b t))))

end Cert.ReferenceIdeal.Steps

end
-- ==== Proof.RefA.lean ====
/- Every step of Ref.lean at an index: the formulas of Point.lean at the arguments' elements. -/
module

public import proofs.«01_k».proof.Proof.RefAt

@[expose] public section

set_option maxRecDepth 16384

noncomputable section

namespace Cert.ReferenceIdeal.Steps

open Idealize.ShloMosaic Cert.ReferenceIdeal Cert.ReferenceIdeal.Gen Cert.Grid

variable (x : FVec Ideal S48x20480x3 .f32) (g : IVec S8x2x7680x8x128 32) (s : FVec Ideal S16 .f32)
variable (l : Fin 16) (c : Fin 8) (a : Fin 3) (b : Fin 48) (t : Fin 20480)

theorem code0_at : code0 x g (ix4 l c b t) = valAt x g l c b t rCode0 := by
  unfold valAt num rCode0
  rw [← entry_at]
  pointwise [code0, con]
  rfl

theorem code1_at : code1 x g (ix4 l c b t) = valAt x g l c b t rCode1 := by
  unfold valAt num rCode1
  rw [← entry_at]
  pointwise [code1, con]
  rfl

end Cert.ReferenceIdeal.Steps

end
-- ==== Proof.RefB.lean ====
/- Every step of Ref.lean at an index: the formulas of Point.lean at the arguments' elements. -/
module

public import proofs.«01_k».proof.Proof.RefAt

@[expose] public section

set_option maxRecDepth 16384

noncomputable section

namespace Cert.ReferenceIdeal.Steps

open Idealize.ShloMosaic Cert.ReferenceIdeal Cert.ReferenceIdeal.Gen Cert.Grid

variable (x : FVec Ideal S48x20480x3 .f32) (g : IVec S8x2x7680x8x128 32) (s : FVec Ideal S16 .f32)
variable (l : Fin 16) (c : Fin 8) (a : Fin 3) (b : Fin 48) (t : Fin 20480)

theorem factors_at : factors x (ix5 l c a b t) = fac (bit c a) (rFrac (rnf l) (x (ix3 b t a))) := by
  unfold fac
  rw [← frac_at, ← bits_at]
  pointwise [factors]

/-- The fractions of a point. -/
def fr : Fin 3 → EReal := fun a => rFrac (rnf l) (x (ix3 b t a))

theorem factors_fr : factors x (ix5 l c a b t) = fac (bit c a) (fr x l b t a) := factors_at x l c a b t

theorem fac0_at : ax0 (factors x) (ix4 l c b t) = fac (bit c 0) (fr x l b t 0) :=
  (ax0_at l c b t (factors x)).trans (factors_fr x l c 0 b t)
theorem fac1_at : ax1 (factors x) (ix4 l c b t) = fac (bit c 1) (fr x l b t 1) :=
  (ax1_at l c b t (factors x)).trans (factors_fr x l c 1 b t)
theorem fac2_at : ax2 (factors x) (ix4 l c b t) = fac (bit c 2) (fr x l b t 2) :=
  (ax2_at l c b t (factors x)).trans (factors_fr x l c 2 b t)

theorem mulf_at {σ : Shape} (p q : FVec Ideal σ .f32) (j : σ.Idx) {p' q' : EReal} (h : p j = p') (h' : q j = q') :
    mulf p q j = p' * q' := by
  rw [← h, ← h']; rfl

theorem weights_at : weights x (ix4 l c b t) = weight (fr x l b t) c := by
  unfold weight weights
  exact mulf_at _ _ _ (mulf_at _ _ _ (fac0_at x l c b t) (fac1_at x l c b t)) (fac2_at x l c b t)

theorem rest0_at : rest0 x (ix4 l c b t) = fac (bit c 1) (fr x l b t 1) * fac (bit c 2) (fr x l b t 2) := by
  unfold rest0
  exact mulf_at _ _ _ (fac1_at x l c b t) (fac2_at x l c b t)

theorem rest1_at : rest1 x (ix4 l c b t) = fac (bit c 0) (fr x l b t 0) * fac (bit c 2) (fr x l b t 2) := by
  unfold rest1
  exact mulf_at _ _ _ (fac0_at x l c b t) (fac2_at x l c b t)

theorem rest2_at : rest2 x (ix4 l c b t) = fac (bit c 0) (fr x l b t 0) * fac (bit c 1) (fr x l b t 1) := by
  unfold rest2
  exact mulf_at _ _ _ (fac0_at x l c b t) (fac1_at x l c b t)

end Cert.ReferenceIdeal.Steps

end
-- ==== Proof.RefC.lean ====
/- Every step of Ref.lean at an index: the formulas of Point.lean at the arguments' elements. -/
module

public import proofs.«01_k».proof.Proof.RefA
public import proofs.«01_k».proof.Proof.RefB

@[expose] public section

set_option maxRecDepth 16384

noncomputable section

namespace Cert.ReferenceIdeal.Steps

open Idealize.ShloMosaic Cert.ReferenceIdeal Cert.ReferenceIdeal.Gen Cert.Grid

variable (x : FVec Ideal S48x20480x3 .f32) (g : IVec S8x2x7680x8x128 32) (s : FVec Ideal S16 .f32)
variable (l : Fin 16) (c : Fin 8) (a : Fin 3) (b : Fin 48) (t : Fin 20480)

theorem rests0_at : rests x (ix5 l c (0 : Fin 3) b t) = rest0 x (ix4 l c b t) := by pointwise [rests]
theorem rests1_at : rests x (ix5 l c (1 : Fin 3) b t) = rest1 x (ix4 l c b t) := by pointwise [rests]
theorem rests2_at : rests x (ix5 l c (2 : Fin 3) b t) = rest2 x (ix4 l c b t) := by pointwise [rests]

theorem rests_at : rests x (ix5 l c a b t) = rest (fr x l b t) c a := by
  match a with
  | 0 => exact (rests0_at x l c b t).trans (rest0_at x l c b t)
  | 1 => exact (rests1_at x l c b t).trans (rest1_at x l c b t)
  | 2 => exact (rests2_at x l c b t).trans (rest2_at x l c b t)

theorem signs_at : signs (ix5 (0 : Fin 1) c a (0 : Fin 1) (0 : Fin 1)) = sgn (bit c a) := by
  unfold sgn
  rw [← bits_at]
  pointwise [signs]
  rfl

theorem wide_signs (p : FVec Ideal S1x8x3x1x1 .f32) :
    broadcastInDim S16x8x3x48x20480 ![0, 1, 2, 3, 4] bcast_S1x8x3x1x1_S16x8x3x48x20480_0_1_2_3_4 p (ix5 l c a b t)
      = p (ix5 (0 : Fin 1) c a (0 : Fin 1) (0 : Fin 1)) := by
  pointwise []

theorem slopes_at : slopes x (ix5 l c a b t) = sgn (bit c a) * rest (fr x l b t) c a := by
  unfold slopes
  exact mulf_at _ _ _ ((wide_signs l c a b t signs).trans (signs_at c a)) (rests_at x l c a b t)

theorem enc_read (p v : FVec Ideal S16x8x48x20480 .f32) :
    mulf (Host.reduceAdd (mulf p v) (constant S_ .f32 0x00000000#32) reducesTo_S16x8x48x20480_S16x48x20480_d1 h_S_)
    (broadcastInDim S16x48x20480 ![0, 1, 2] bcast_S16x1x1_S16x48x20480_0_1_2 (shapeCast S16x1x1 s shapeCasts_S16_S16x1x1)) (ix3 l b t)
      = (∑ c : Fin 8, p (ix4 l c b t) * v (ix4 l c b t)) * s (ix1 l) := by
  pointwise []

theorem enc_at (v : FVec Ideal S16x8x48x20480 .f32) :
    enc x s v (ix3 l b t) = (∑ c : Fin 8, weight (fr x l b t) c * v (ix4 l c b t)) * s (ix1 l) := by
  have h : ∀ c, weight (fr x l b t) c = weights x (ix4 l c b t) := fun c => (weights_at x l c b t).symm
  simp only [h]
  exact enc_read s l b t (weights x) v

theorem grad_read (p : FVec Ideal S16x8x3x48x20480 .f32) (v : FVec Ideal S16x8x48x20480 .f32) (r : FVec Ideal S16 .f32) :
    mulf (broadcastInDim S16x3x48x20480 ![0, 1, 2, 3] bcast_S16x1x1x1_S16x3x48x20480_0_1_2_3
      (shapeCast S16x1x1x1 (mulf s r) shapeCasts_S16_S16x1x1x1))
    (Host.reduceAdd (mulf p
      (broadcastInDim S16x8x3x48x20480 ![0, 1, 2, 3, 4] bcast_S16x8x1x48x20480_S16x8x3x48x20480_0_1_2_3_4
        (broadcastInDim S16x8x1x48x20480 ![0, 1, 3, 4] bcast_S16x8x48x20480_S16x8x1x48x20480_0_1_3_4 v)))
      (constant S_ .f32 0x00000000#32) reducesTo_S16x8x3x48x20480_S16x3x48x20480_d1 h_S_) (ix4 l a b t)
      = (s (ix1 l) * r (ix1 l)) * ∑ c : Fin 8, p (ix5 l c a b t) * v (ix4 l c b t) := by
  pointwise []

theorem lit4_at (l : Fin 16) : Ideal.ofBits .f32 (lit4 (S16.rowMajor (ix1 l))) = rnf l := by
  rw [rm16]; rfl

theorem grad_at (v : FVec Ideal S16x8x48x20480 .f32) :
    grad x s v (ix4 l a b t)
      = s (ix1 l) * rnf l * ∑ c : Fin 8, sgn (bit c a) * rest (fr x l b t) c a * v (ix4 l c b t) := by
  have h : ∀ c, sgn (bit c a) * rest (fr x l b t) c a = slopes x (ix5 l c a b t) := fun c => (slopes_at x l c a b t).symm
  simp only [h]
  rw [← lit4_at]
  exact grad_read s l a b t (slopes x) v _

theorem enc_out (p q : FVec Ideal S16x48x20480 .f32) (ch : Fin 32) :
    shapeCast S48x20480x32 (transpose S48x20480x16x2 [1, 2, 0, 3] (truncf (F := Ideal) .bf16 (concatenate S16x48x20480x2 3
      [⟨S16x48x20480x1, broadcastInDim S16x48x20480x1 ![0, 1, 2] bcast_S16x48x20480_S16x48x20480x1_0_1_2 p⟩,
       ⟨S16x48x20480x1, broadcastInDim S16x48x20480x1 ![0, 1, 2] bcast_S16x48x20480_S16x48x20480x1_0_1_2 q⟩]
      concatenates_S16x48x20480x1_S16x48x20480x1_S16x48x20480x2_d3) bitsLt_bf16_f32)
      transposes_S16x48x20480x2_S48x20480x16x2_1_2_0_3) shapeCasts_S48x20480x16x2_S48x20480x32 (ix3 b t ch)
    = if ch.val % 2 < 1 then p (ix3 (⟨ch.val / 2, by omega⟩ : Fin 16) b t) else q (ix3 (⟨ch.val / 2, by omega⟩ : Fin 16) b t) := by
  pointwise []
  rfl

theorem grad_out (p q : FVec Ideal S16x3x48x20480 .f32) (ch : Fin 32) :
    shapeCast S48x20480x3x32 (transpose S48x20480x3x16x2 [2, 3, 1, 0, 4] (truncf (F := Ideal) .bf16 (concatenate S16x3x48x20480x2 4
      [⟨S16x3x48x20480x1, broadcastInDim S16x3x48x20480x1 ![0, 1, 2, 3] bcast_S16x3x48x20480_S16x3x48x20480x1_0_1_2_3 p⟩,
       ⟨S16x3x48x20480x1, broadcastInDim S16x3x48x20480x1 ![0, 1, 2, 3] bcast_S16x3x48x20480_S16x3x48x20480x1_0_1_2_3 q⟩]
      concatenates_S16x3x48x20480x1_S16x3x48x20480x1_S16x3x48x20480x2_d4) bitsLt_bf16_f32)
      transposes_S16x3x48x20480x2_S48x20480x3x16x2_2_3_1_0_4) shapeCasts_S48x20480x3x16x2_S48x20480x3x32 (ix4 b t a ch)
    = if ch.val % 2 < 1 then p (ix4 (⟨ch.val / 2, by omega⟩ : Fin 16) a b t) else q (ix4 (⟨ch.val / 2, by omega⟩ : Fin 16) a b t) := by
  pointwise []
  rfl

/-- The level of a channel. -/
def lev (ch : Fin 32) : Fin 16 := ⟨ch.val / 2, by omega⟩

/-- Which half of a word a channel reads. -/
def rCode (ch : Fin 32) : BitVec 32 → BitVec 32 := if ch.val % 2 < 1 then rCode0 else rCode1

theorem enc_val (v : FVec Ideal S16x8x48x20480 .f32) (r : BitVec 32 → BitVec 32)
    (h : ∀ c, v (ix4 l c b t) = valAt x g l c b t r) :
    enc x s v (ix3 l b t) = rEnc r (rnf l) (s (ix1 l)) (lit3 l) (lit2 l) (fun a => x (ix3 b t a)) (fun c => words g (ix4 l c b t)) := by
  rw [enc_at]
  simp only [h]
  rfl

theorem grad_val (v : FVec Ideal S16x8x48x20480 .f32) (r : BitVec 32 → BitVec 32)
    (h : ∀ c, v (ix4 l c b t) = valAt x g l c b t r) :
    grad x s v (ix4 l a b t) = rGrad r (rnf l) (s (ix1 l)) (lit3 l) (lit2 l) (fun a => x (ix3 b t a)) (fun c => words g (ix4 l c b t)) a := by
  rw [grad_at]
  simp only [h]
  rfl

theorem encOut_at (ch : Fin 32) :
    encOut x g s (ix3 b t ch) = rEnc (rCode ch) (rnf (lev ch)) (s (ix1 (lev ch))) (lit3 (lev ch)) (lit2 (lev ch))
      (fun a => x (ix3 b t a)) (fun c => words g (ix4 (lev ch) c b t)) := by
  unfold encOut
  refine (enc_out b t _ _ ch).trans ?_
  unfold rCode
  split
  · exact enc_val x g s (lev ch) b t _ rCode0 fun c => code0_at x g (lev ch) c b t
  · exact enc_val x g s (lev ch) b t _ rCode1 fun c => code1_at x g (lev ch) c b t

theorem gradOut_at (ch : Fin 32) :
    gradOut x g s (ix4 b t a ch) = rGrad (rCode ch) (rnf (lev ch)) (s (ix1 (lev ch))) (lit3 (lev ch)) (lit2 (lev ch))
      (fun a => x (ix3 b t a)) (fun c => words g (ix4 (lev ch) c b t)) a := by
  unfold gradOut
  refine (grad_out a b t _ _ ch).trans ?_
  unfold rCode
  split
  · exact grad_val x g s (lev ch) a b t _ rCode0 fun c => code0_at x g (lev ch) c b t
  · exact grad_val x g s (lev ch) a b t _ rCode1 fun c => code1_at x g (lev ch) c b t

end Cert.ReferenceIdeal.Steps

end
-- ==== Proof.Match.lean ====
/- The two programs' result arrays, element by element, under the precondition. -/
module

public import proofs.«01_k».proof.Defs
public import proofs.«01_k».proof.Proof.Array
public import proofs.«01_k».proof.Proof.RefC

@[expose] public section

set_option maxRecDepth 16384

noncomputable section

namespace Cert.Match

open Idealize.ShloMosaic Cert.Grid Cert.KernelIdeal.Interp Cert.ReferenceIdeal.Steps

/-! ## The tables -/

theorem lit0_eq (l : Fin 16) : Cert.KernelIdeal.lit0 l = Cert.ReferenceIdeal.lit0 l := by
  fin_cases l <;> rfl

theorem den_eq (l : Fin 16) : IntOp.cmpi .sgt (Cert.KernelIdeal.lit1 l) 0#32 = Cert.ReferenceIdeal.lit3 l := by
  fin_cases l <;> rfl

theorem n1_eq (l : Fin 16) : Cert.KernelIdeal.lit2 l = Cert.ReferenceIdeal.lit2 l := by
  fin_cases l <;> rfl

/-- The sizes of the levels. -/
def size (l : Fin 16) : ℤ := ![16, 23, 33, 48, 70, 101, 147, 212, 307, 445, 645, 933, 1351, 1955, 2830, 4095] l

theorem size_at (l : Fin 16) : rnf l = ((size l : ℝ) : EReal) := by
  fin_cases l <;>
  · simp [rnf, size, Cert.ReferenceIdeal.lit0, Ideal.ofBits, Ideal.ieee]
    rw [← EReal.coe_mul]
    norm_num

/-- Every level's size is an integer from 1 to 4096. -/
theorem level (l : Fin 16) : ∃ n : ℤ, rnf l = ((n : ℝ) : EReal) ∧ 1 ≤ n ∧ n ≤ 4096 :=
  ⟨size l, size_at l, by fin_cases l <;> simp [size], by fin_cases l <;> simp [size]⟩

/-! ## The precondition -/

theorem low : Ideal.ofBits .f32 0xC9000000#32 = ((-524288 : ℝ) : EReal) := by
  simp [Ideal.ofBits, Ideal.ieee]
  rw [← EReal.coe_mul]
  norm_num

theorem high : Ideal.ofBits .f32 0x7F800000#32 = ⊤ := by
  simp [Ideal.ofBits, Ideal.ieee]

theorem point_of (v : EReal) (h : IntOp.andi (Ideal.cmp .oge v (Ideal.ofBits .f32 0xC9000000#32)) (Ideal.cmp .olt v (Ideal.ofBits .f32 0x7F800000#32)) = 1#1) :
    ∃ r : ℝ, v = (r : EReal) ∧ -524288 ≤ r := by
  rw [low, high] at h
  have hand : ∀ p q : BitVec 1, IntOp.andi p q = 1#1 → p = 1#1 ∧ q = 1#1 := by decide
  obtain ⟨h1, h2⟩ := hand _ _ h
  have h1' : ((-524288 : ℝ) : EReal) ≤ v := by
    by_contra hn
    simp only [Ideal.cmp, hn, decide_false] at h1
    exact absurd h1 (by decide)
  have h2' : v < ⊤ := by
    by_contra hn
    simp only [Ideal.cmp, hn, decide_false] at h2
    exact absurd h2 (by decide)
  induction v using EReal.rec with
  | bot => simp at h1'
  | top => simp at h2'
  | coe r => exact ⟨r, rfl, EReal.coe_le_coe_iff.mp h1'⟩

variable [hP : Cert.Pre_positions_tame.Facts]

theorem point (x : FVec Ideal Cert.KernelIdeal.S48x20480x3 .f32) (g : IVec Cert.KernelIdeal.S8x2x7680x8x128 32) (s : FVec Ideal Cert.KernelIdeal.S16 .f32)
    (h : Cert.Pre_positions_tame.fn (F := Ideal) x g s = fun _ => 1#1) (b : Fin 48) (t : Fin 20480) (a : Fin 3) :
    ∃ r : ℝ, x (ix3 b t a) = (r : EReal) ∧ -524288 ≤ r := by
  refine point_of _ ((?_ : _ = Cert.Pre_positions_tame.fn (F := Ideal) x g s (ix3 b t a)).trans (congrFun h (ix3 b t a)))
  rfl

/-! ## The elements -/

theorem words_eq (g : IVec Cert.KernelIdeal.S8x2x7680x8x128 32) (b : Fin 48) (t : Fin 20480) (ch : Fin 32) (k : Fin 8) :
    g (ix5 k (⟨ch.val / 16, by omega⟩ : Fin 2) (⟨(b.val / 8 * 160 + t.val / 128) * 8 + b.val % 8, by omega⟩ : Fin 7680)
      (⟨ch.val / 2 % 8, by omega⟩ : Fin 8) (⟨t.val % 128, by omega⟩ : Fin 128))
      = words g (ix4 (lev ch) k b t) := by
  refine (congrArg g ?_).trans (words_at g (lev ch) k b t).symm
  have e : ch.val / 16 = ch.val / 2 / 8 := by omega
  congr 1
  exact Fin.ext e

theorem kPt_at (x : FVec Ideal Cert.KernelIdeal.S48x20480x3 .f32) (g : IVec Cert.KernelIdeal.S8x2x7680x8x128 32) (s : FVec Ideal Cert.KernelIdeal.S16 .f32)
    (b : Fin 48) (t : Fin 20480) (ch : Fin 32) :
    arrPt x g s b ch t = kPt (kCode (ch.val % 2)) (rnf (lev ch)) (s (ix1 (lev ch))) (Cert.ReferenceIdeal.lit3 (lev ch)) (Cert.ReferenceIdeal.lit2 (lev ch))
      (fun a => x (ix3 b t a)) (fun c => words g (ix4 (lev ch) c b t)) := by
  rw [← funext (words_eq g b t ch), ← den_eq (lev ch), ← n1_eq (lev ch)]
  unfold rnf
  rw [← lit0_eq (lev ch)]
  rfl

theorem reads (ch : Fin 32) : Reads (kCode (ch.val % 2)) (rCode ch) := by
  unfold kCode rCode
  by_cases h : ch.val % 2 = 0
  · rw [if_pos h, if_pos (by omega)]
    exact reads0
  · rw [if_neg h, if_neg (by omega)]
    exact reads1

theorem enc_elem (x : FVec Ideal Cert.KernelIdeal.S48x20480x3 .f32) (g : IVec Cert.KernelIdeal.S8x2x7680x8x128 32) (s : FVec Ideal Cert.KernelIdeal.S16 .f32)
    (h : Cert.Pre_positions_tame.fn (F := Ideal) x g s = fun _ => 1#1) (b : Fin 48) (t : Fin 20480) (ch : Fin 32) :
    (arrPt x g s b ch t).enc = encOut x g s (ix3 b t ch) := by
  rw [kPt_at, encOut_at]
  exact enc_agree (reads ch) _ _ _ _ _ _ ⟨level _, fun a => point x g s h b t a⟩

theorem grad_elem (x : FVec Ideal Cert.KernelIdeal.S48x20480x3 .f32) (g : IVec Cert.KernelIdeal.S8x2x7680x8x128 32) (s : FVec Ideal Cert.KernelIdeal.S16 .f32)
    (h : Cert.Pre_positions_tame.fn (F := Ideal) x g s = fun _ => 1#1) (b : Fin 48) (t : Fin 20480) (a : Fin 3) (ch : Fin 32) :
    (arrPt x g s b ch t).grad a = gradOut x g s (ix4 b t a ch) := by
  rw [kPt_at, gradOut_at]
  exact grad_agree (reads ch) _ _ _ _ _ _ ⟨level _, fun a => point x g s h b t a⟩ a

end Cert.Match

end
-- ==== Proof.RefRun.lean ====
/- The reference program's two results are the named steps of Ref.lean. -/
module

public import proofs.«01_k».proof.Proof.Ref

@[expose] public section

set_option maxRecDepth 16384

noncomputable section

namespace Cert.ReferenceIdeal.Steps

open Idealize.ShloMosaic Cert.ReferenceIdeal Cert.ReferenceIdeal.Gen Idealize.ShloMosaic.Tactic

theorem res0_eq (m : (ℓ : Loc nD τ sig) → Buf (Elt Ideal) ℓ) (c : Dev nD) :
    Value.res_out0 m c = encOut (m ((c.tc : Thread nD τ).loc main_arg0)) (m ((c.tc : Thread nD τ).loc main_arg1))
      (m ((c.tc : Thread nD τ).loc main_arg2)) := by
  sl_kernel_rfl

theorem res1_eq (m : (ℓ : Loc nD τ sig) → Buf (Elt Ideal) ℓ) (c : Dev nD) :
    Value.res_out1 m c = gradOut (m ((c.tc : Thread nD τ).loc main_arg0)) (m ((c.tc : Thread nD τ).loc main_arg1))
      (m ((c.tc : Thread nD τ).loc main_arg2)) := by
  sl_kernel_rfl

end Cert.ReferenceIdeal.Steps

end
-- ==== Proof.Final.lean ====
/- The kernel's run, its two results against the reference's. -/
module

public import proofs.«01_k».proof.Proof.Match
public import proofs.«01_k».proof.Proof.RefRun

@[expose] public section

set_option maxRecDepth 16384

noncomputable section

namespace Cert.Final

open Idealize.ShloMosaic Idealize.ShloMosaic.TcCoe Idealize.SL.Sem Cert.KernelIdeal Cert.KernelIdeal.Gen Cert.Grid Cert.KernelIdeal.Interp

variable (m : (ℓ : Loc nD τ sig) → Buf (Elt Ideal) ℓ) (ρ : Dev nD → PrngReg)

/-- The two arrays the launch leaves. -/
def encV (c : Dev nD) : FVec Ideal S48x32x20480 .bf16 :=
  fun i => (arrPt (posn m c) (hashed m c) (scal m c) (i 0) (i 1) (i 2)).enc
def gradV (c : Dev nD) : FVec Ideal S48x3x32x20480 .bf16 :=
  fun i => (arrPt (posn m c) (hashed m c) (scal m c) (i 0) (i 2) (i 3)).grad (i 1)

/-- The two results, in the order they are returned in. -/
def res0 (c : Dev nD) : FVec Ideal S48x20480x32 .bf16 :=
  transpose S48x20480x32 [0, 2, 1] (encV m c) transposes_S48x32x20480_S48x20480x32_0_2_1
def res1 (c : Dev nD) : FVec Ideal S48x20480x3x32 .bf16 :=
  transpose S48x20480x3x32 [0, 3, 1, 2] (gradV m c) transposes_S48x3x32x20480_S48x20480x3x32_0_3_1_2

theorem tail0 (c : Dev nD) : Pipeline.afterTail₀ cfgs (dats m) 0 (V0 m) [hostOps1] c main_v12 = res0 m c := by
  unfold Pipeline.afterTail₀
  simp only [hostOps1, List.flatten_cons, List.flatten_nil, List.append_nil, StableHlo.after_cons, StableHlo.after_nil]
  after_results_simp
  exact congrArg (fun v => transpose S48x20480x32 [0, 2, 1] v transposes_S48x32x20480_S48x20480x32_0_2_1)
    ((Pipeline.withArrays_arr (cfgs 0).spec (by decide) c (V0 m c) (fun w => (dats m 0 c).arrAt w (cfgs 0).N) 6).trans (encArr m c))

theorem tail1 (c : Dev nD) : Pipeline.afterTail₀ cfgs (dats m) 0 (V0 m) [hostOps1] c main_v13 = res1 m c := by
  unfold Pipeline.afterTail₀
  simp only [hostOps1, List.flatten_cons, List.flatten_nil, List.append_nil, StableHlo.after_cons, StableHlo.after_nil]
  after_results_simp
  exact congrArg (fun v => transpose S48x20480x3x32 [0, 3, 1, 2] v transposes_S48x3x32x20480_S48x20480x3x32_0_3_1_2)
    ((Pipeline.withArrays_arr (cfgs 0).spec (by decide) c (V0 m c) (fun w => (dats m 0 c).arrAt w (cfgs 0).N) 7).trans (gradArr m c))

theorem run : θ_run defs (onTc (τ := τ) (main (F := Ideal))) ⟨m, fun _ => 0, ρ⟩ (fun r => ∀ c : Dev nD,
      r.2.mem ((c.tc : Thread nD τ).loc main_v12) = res0 m c
      ∧ r.2.mem ((c.tc : Thread nD τ).loc main_v13) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h.1 c).2 main_v12 (Pipeline.mem_restRefs_of main_v12 (by decide) (by decide))).trans (tail0 m c),
      ((h.1 c).2 main_v13 (Pipeline.mem_restRefs_of main_v13 (by decide) (by decide))).trans (tail1 m c),
      h.2 c⟩)
    (θ_run_and (run_main m ρ) (unchanged m ρ))

theorem res0_eq [hP : Cert.Pre_positions_tame.Facts] (c : Dev nD)
    (h : Cert.Pre_positions_tame.fn (F := Ideal) (posn m c) (hashed m c) (scal m c) = fun _ => 1#1) :
    res0 m c = Cert.ReferenceIdeal.Steps.encOut (posn m c) (hashed m c) (scal m c) := by
  funext i
  have ei : i = ix3 (i 0) (i 1) (i 2) := by
    funext a
    match a with
    | 0 => rfl
    | 1 => rfl
    | 2 => rfl
  have key : ∀ (b : Fin 48) (t : Fin 20480) (ch : Fin 32),
      res0 m c (ix3 b t ch) = Cert.ReferenceIdeal.Steps.encOut (posn m c) (hashed m c) (scal m c) (ix3 b t ch) := fun b t ch => by
    rw [← Cert.Match.enc_elem _ _ _ h b t ch]
    have move : ∀ v : FVec Ideal S48x32x20480 .bf16,
        transpose S48x20480x32 [0, 2, 1] v transposes_S48x32x20480_S48x20480x32_0_2_1 (ix3 b t ch) = v (ix3 b ch t) := fun v => by
      pointwise []
    exact move (encV m c)
  exact (congrArg _ ei).trans ((key (i 0) (i 1) (i 2)).trans (congrArg _ ei.symm))

theorem res1_eq [hP : Cert.Pre_positions_tame.Facts] (c : Dev nD)
    (h : Cert.Pre_positions_tame.fn (F := Ideal) (posn m c) (hashed m c) (scal m c) = fun _ => 1#1) :
    res1 m c = Cert.ReferenceIdeal.Steps.gradOut (posn m c) (hashed m c) (scal m c) := by
  funext i
  have ei : i = ix4 (i 0) (i 1) (i 2) (i 3) := by
    funext a
    match a with
    | 0 => rfl
    | 1 => rfl
    | 2 => rfl
    | 3 => rfl
  have key : ∀ (b : Fin 48) (t : Fin 20480) (a : Fin 3) (ch : Fin 32),
      res1 m c (ix4 b t a ch) = Cert.ReferenceIdeal.Steps.gradOut (posn m c) (hashed m c) (scal m c) (ix4 b t a ch) := fun b t a ch => by
    rw [← Cert.Match.grad_elem _ _ _ h b t a ch]
    have move : ∀ v : FVec Ideal S48x3x32x20480 .bf16,
        transpose S48x20480x3x32 [0, 3, 1, 2] v transposes_S48x3x32x20480_S48x20480x3x32_0_3_1_2 (ix4 b t a ch) = v (ix4 b a ch t) := fun v => by
      pointwise []
    exact move (gradV m c)
  exact (congrArg _ ei).trans ((key (i 0) (i 1) (i 2) (i 3)).trans (congrArg _ ei.symm))

theorem algebraic [hP : Cert.Pre_positions_tame.Facts] :
    Cert.algebraic_KernelIdeal_ReferenceIdeal_pre_positions_tame (hKernelIdeal := Cert.KernelIdeal.Gen.facts)
      (hReferenceIdeal := Cert.ReferenceIdeal.Gen.facts) (hPre_positions_tame := hP) := by
  intro m g m' g' hpre hagree
  refine ⟨res0 m, res1 m, run m g, (θ_run Cert.ReferenceIdeal.defs _ _).mono (fun r h c => ?_) (Cert.ReferenceIdeal.Value.run m' g')⟩
  obtain ⟨a0, a1, a2⟩ := hagree c
  have p := hpre c
  obtain ⟨h0, h1, hargs⟩ := h c
  refine ⟨h0.trans ?_, h1.trans ?_, hargs⟩
  · refine (Cert.ReferenceIdeal.Steps.res0_eq m' c).trans ?_
    rw [a0, a1, a2]
    exact (res0_eq m c p).symm
  · refine (Cert.ReferenceIdeal.Steps.res1_eq m' c).trans ?_
    rw [a0, a1, a2]
    exact (res1_eq m c p).symm

end Cert.Final

end
-- ==== Proof.PackStore.lean ====
/- One store of the packing body, stated once for its 64 rows, and its words at an index. -/
module

public import proofs.«01_k».proof.Proof.Gen.PackIdeal.Frame
public import Idealize.ShloMosaic.Lib.Pipeline.ValueKit
public import Idealize.ShloMosaic.Lib.IdealHost

@[expose] public section

set_option maxRecDepth 16384

noncomputable section

namespace Cert.PackIdeal.Packing

open Idealize.ShloMosaic Cert.PackIdeal Idealize.ShloMosaic.Tactic Cert.PackIdeal.Gen

section

variable {F : FTy → Type} [FloatOps F]

theorem rowSlice (r : Fin 64) : S16x16384.Slices ![0, 256 * r.val] S16x256 :=
  ⟨rfl, fun a => match a with
    | 0 => Nat.le_refl 16
    | 1 => show 256 * r.val + 256 ≤ 16384 by omega⟩

/-- The bytes of one feature's codes in row `r`, the even entries first. -/
def bytes (r : Fin 64) (perm : FVec F S256x256 .bf16) (t : FVec F S16x16384 .bf16) : IVec S16x256 32 :=
  andi (fptosi 32 (matmul dot_S16x256_S256x256_S16x256_1_0_0_1_n_n none
    (extractStridedSlice S16x256 ![0, 256 * r.val] t (rowSlice r)) perm (constant S16x256 .f32 0x00000000#32)))
    (broadcast S16x256 255#32)

/-- The table entries of row `r`, the even ones first: each its two bytes. -/
def halves (r : Fin 64) (perm : FVec F S256x256 .bf16) (t0 t1 : FVec F S16x16384 .bf16) : IVec S16x256 32 :=
  ori (bytes r perm t0) (shli (bytes r perm t1) (broadcast S16x256 8#32))

/-- The words of row `r`: an even entry in the low half, the next one in the high half. -/
def rowWords (h : IVec S16x256 32) : IVec S16x1x128 32 :=
  shapeCast S16x1x128 (ori (extractStridedSlice S16x128 ![0, 0] h slices_S16x256_o0_0_S16x128)
    (shli (extractStridedSlice S16x128 ![0, 128] h slices_S16x256_o0_128_S16x128) (broadcast S16x128 16#32)))
    shapeCasts_S16x128_S16x1x128

/-- What the store of row `r` writes. -/
def piece (r : Fin 64) (x0 : Vec F S2x16x16384 .i8) : IVec S16x1x128 32 :=
  rowWords (halves r (k0_pay2 (F := F)) (k0_pay3 (View.ld x0 r0_0)) (k0_pay4 (View.ld x0 r0_1)))

theorem rowInb (r : Fin 64) : ∀ a, (![0, r.val, 0] : Fin 3 → ℕ) a + S16x1x128.size a ≤ S16x64x128.size a := by
  intro a; fin_cases a <;> simp [Shape.size]

/-- The `k`-th store from the end writes row `63 - k`. -/
abbrev rOf (k : Fin 64) : Fin 64 := ⟨63 - k.val, by omega⟩

theorem out_eq (x0 : Vec F S2x16x16384 .i8) : out0_1 x0 = View.canon (List.ofFn fun k : Fin 64 =>
    (⟨Rect.unit (s := S16x64x128) ![0, (rOf k).val, 0] S16x1x128.size (rowInb (rOf k)), piece (rOf k) x0⟩ :
      View.Piece (Elt F) S16x64x128 .i32)) := by
  sl_kernel_rfl

end

/-! ## At an index, over the extended reals -/

/-- The entry that the permutation puts at place `j`. -/
def srcOf (j : ℕ) : ℕ := if j < 128 then 2 * j else 2 * (j - 128) + 1

theorem srcOf_word : ∀ j : Fin 256, Scalar.select (IntOp.cmpi .slt (BitVec.ofNat 32 j.val) 128#32)
    (IntOp.muli 2#32 (BitVec.ofNat 32 j.val))
    (IntOp.addi (IntOp.muli 2#32 (IntOp.subi (BitVec.ofNat 32 j.val) 128#32)) 1#32) = BitVec.ofNat 32 (srcOf j.val) := by
  decide +kernel

theorem srcOf_lt (j : Fin 256) : srcOf j.val < 256 := by
  unfold srcOf
  split <;> omega

theorem eq_word (a b : ℕ) (ha : a < 256) (hb : b < 256) :
    IntOp.cmpi .eq (BitVec.ofNat 32 a) (BitVec.ofNat 32 b) = if a = b then 1#1 else 0#1 := by
  by_cases h : a = b
  · subst h
    simp [IntOp.cmpi]
  · have h' : BitVec.ofNat 32 a ≠ BitVec.ofNat 32 b := fun e => h (by
      have h2 := congrArg BitVec.toNat e
      rw [BitVec.toNat_ofNat, BitVec.toNat_ofNat] at h2
      omega)
    rw [if_neg h]
    show BitVec.ofBool (BitVec.ofNat 32 a == BitVec.ofNat 32 b) = 0#1
    rw [beq_eq_false_iff_ne.mpr h']
    rfl

theorem perm_at (k j : Fin 256) : k0_pay2 (F := Ideal) (ix2 k j) = if k.val = srcOf j.val then 1 else 0 := by
  have h : k0_pay2 (F := Ideal) (ix2 k j) = ((((IntOp.cmpi .eq (BitVec.ofNat 32 k.val) (BitVec.ofNat 32 (srcOf j.val))).setWidth 32).toInt : ℝ) : EReal) := by
    rw [← srcOf_word j]
    unfold k0_pay2
    pointwise []
    rfl
  rw [h, eq_word _ _ k.isLt (srcOf_lt j)]
  split <;> simp

theorem bytes_at (r : Fin 64) (p : FVec Ideal S256x256 .bf16) (t : FVec Ideal S16x16384 .bf16) (l : Fin 16) (j : Fin 256) :
    bytes r p t (ix2 l j) = IntOp.andi (Ideal.fptosi 32 (∑ k : Fin 256,
      t (ix2 l (⟨256 * r.val + k.val, by omega⟩ : Fin 16384)) * p (ix2 k j))) 255#32 := by
  unfold bytes
  pointwise []
  rfl

theorem halves_at (r : Fin 64) (p : FVec Ideal S256x256 .bf16) (t0 t1 : FVec Ideal S16x16384 .bf16) (i : S16x256.Idx) :
    halves r p t0 t1 i = IntOp.ori (bytes r p t0 i) (IntOp.shli .vector (bytes r p t1 i) 8#32) := by
  unfold halves
  pointwise []

theorem rowWords_at (h : IVec S16x256 32) (l : Fin 16) (q : Fin 128) :
    rowWords h (ix3 l (0 : Fin 1) q) = IntOp.ori (h (ix2 l (⟨q.val, by omega⟩ : Fin 256)))
      (IntOp.shli .vector (h (ix2 l (⟨128 + q.val, by omega⟩ : Fin 256))) 16#32) := by
  unfold rowWords
  pointwise []

theorem code0_at (x0 : Vec Ideal S2x16x16384 .i8) (l : Fin 16) (k : Fin 16384) :
    k0_pay3 (F := Ideal) (View.ld x0 r0_0) (ix2 l k) = (((x0 (ix3 (0 : Fin 2) l k) : BitVec 8).toInt : ℝ) : EReal) := by
  unfold k0_pay3
  pointwise []
  rfl

theorem code1_at (x0 : Vec Ideal S2x16x16384 .i8) (l : Fin 16) (k : Fin 16384) :
    k0_pay4 (F := Ideal) (View.ld x0 r0_1) (ix2 l k) = (((x0 (ix3 (1 : Fin 2) l k) : BitVec 8).toInt : ℝ) : EReal) := by
  unfold k0_pay4
  pointwise []
  rfl

/-- Converting a sign-extended code to a float and back gives the code. -/
theorem fptosi_code (b : BitVec 8) : Ideal.fptosi 32 ((b.toInt : ℝ) : EReal) = b.signExtend 32 := by
  have h1 := b.toInt_lt (w := 8)
  have h2 := b.le_toInt (w := 8)
  have h3 : Ideal.toIntClamped (-(2 ^ (32 - 1) : Nat)) ((2 ^ (32 - 1) : Nat) - 1) ((b.toInt : ℝ) : EReal) = b.toInt := by
    show max _ (min _ (if (0 : ℝ) ≤ (b.toInt : ℝ) then ⌊(b.toInt : ℝ)⌋ else ⌈(b.toInt : ℝ)⌉)) = _
    rw [Int.floor_intCast, Int.ceil_intCast, ite_self]
    norm_num at h1 h2 ⊢
    omega
  unfold Ideal.fptosi
  rw [h3]
  rfl

/-- A code as a byte of a 32-bit word. -/
def byteOf (b : BitVec 8) : BitVec 32 := b.signExtend 32 &&& 255#32

/-- Four bytes of a word, the lowest first. -/
def wordOf (b0 b1 b2 b3 : BitVec 8) : BitVec 32 :=
  byteOf b0 ||| byteOf b1 <<< 8 ||| byteOf b2 <<< 16 ||| byteOf b3 <<< 24

theorem bytes_code (r : Fin 64) (t : FVec Ideal S16x16384 .bf16) (b : Fin 16 → Fin 16384 → BitVec 8)
    (ht : ∀ l k, t (ix2 l k) = (((b l k).toInt : ℝ) : EReal)) (l : Fin 16) (j : Fin 256) :
    bytes r (k0_pay2 (F := Ideal)) t (ix2 l j)
      = byteOf (b l (⟨256 * r.val + srcOf j.val, by have := srcOf_lt j; omega⟩ : Fin 16384)) := by
  rw [bytes_at]
  have hs : (∑ k : Fin 256, t (ix2 l (⟨256 * r.val + k.val, by omega⟩ : Fin 16384)) * k0_pay2 (F := Ideal) (ix2 k j) : EReal)
      = t (ix2 l (⟨256 * r.val + srcOf j.val, by have := srcOf_lt j; omega⟩ : Fin 16384)) := by
    rw [Finset.sum_eq_single (⟨srcOf j.val, srcOf_lt j⟩ : Fin 256)]
    · rw [perm_at, if_pos rfl, mul_one]
    · intro k _ hk
      rw [perm_at, if_neg (fun e => hk (Fin.ext e)), mul_zero]
    · intro h
      exact absurd (Finset.mem_univ _) h
  refine (congrArg (fun v => IntOp.andi (Ideal.fptosi 32 v) 255#32) (hs.trans (ht l _))).trans ?_
  show IntOp.andi (Ideal.fptosi 32 _) 255#32 = _
  rw [fptosi_code]
  rfl

theorem join (b0 b1 b2 b3 : BitVec 32) :
    IntOp.ori (IntOp.ori b0 (IntOp.shli .vector b1 8#32)) (IntOp.shli .vector (IntOp.ori b2 (IntOp.shli .vector b3 8#32)) 16#32)
      = b0 ||| b1 <<< 8 ||| b2 <<< 16 ||| b3 <<< 24 := by
  show b0 ||| b1 <<< 8 ||| (b2 ||| b3 <<< 8) <<< 16 = _
  rw [BitVec.shiftLeft_or_distrib, ← BitVec.shiftLeft_add, BitVec.or_assoc (b0 ||| b1 <<< 8)]

/-- The word of row `r` and lane `q` of a block: the table entries `256 r + 2 q` and the next, each two bytes. -/
theorem piece_at (r : Fin 64) (x0 : Vec Ideal S2x16x16384 .i8) (l : Fin 16) (q : Fin 128) :
    piece r x0 (ix3 l (0 : Fin 1) q)
      = wordOf (x0 (ix3 (0 : Fin 2) l (⟨256 * r.val + 2 * q.val, by omega⟩ : Fin 16384)))
          (x0 (ix3 (1 : Fin 2) l (⟨256 * r.val + 2 * q.val, by omega⟩ : Fin 16384)))
          (x0 (ix3 (0 : Fin 2) l (⟨256 * r.val + (2 * q.val + 1), by omega⟩ : Fin 16384)))
          (x0 (ix3 (1 : Fin 2) l (⟨256 * r.val + (2 * q.val + 1), by omega⟩ : Fin 16384))) := by
  have e : srcOf q.val = 2 * q.val := if_pos q.isLt
  have o : srcOf (128 + q.val) = 2 * q.val + 1 := (if_neg (by omega)).trans (by omega)
  have h0 := bytes_code r (k0_pay3 (F := Ideal) (View.ld x0 r0_0)) (fun l k => x0 (ix3 (0 : Fin 2) l k)) (code0_at x0) l
  have h1 := bytes_code r (k0_pay4 (F := Ideal) (View.ld x0 r0_1)) (fun l k => x0 (ix3 (1 : Fin 2) l k)) (code1_at x0) l
  unfold piece
  rw [rowWords_at, halves_at, halves_at, h0, h1, h0, h1, join]
  simp only [e, o]
  rfl

theorem rowCover (l : Fin 16) (r : Fin 64) (q : Fin 128) :
    ∃ k : Fin 64, ∀ a : Fin 3, (![0, (rOf k).val, 0] : Fin 3 → ℕ) a ≤ (ix3 l r q : S16x64x128.Idx) a
      ∧ ((ix3 l r q : S16x64x128.Idx) a : ℕ) < (![0, (rOf k).val, 0] : Fin 3 → ℕ) a + S16x1x128.size a := by
  refine ⟨⟨63 - r.val, by omega⟩, fun a => ?_⟩
  match a with
  | 0 => exact (show _ ≤ l.val ∧ l.val < _ + 16 from by simp)
  | 1 => exact (show _ ≤ r.val ∧ r.val < _ + 1 from by simp; omega)
  | 2 => exact (show _ ≤ q.val ∧ q.val < _ + 128 from by simp)

/-- The word of a block. -/
def blkWord (x0 : Vec Ideal S2x16x16384 .i8) (l : Fin 16) (r : Fin 64) (q : Fin 128) : BitVec 32 :=
  wordOf (x0 (ix3 (0 : Fin 2) l (⟨256 * r.val + 2 * q.val, by omega⟩ : Fin 16384)))
    (x0 (ix3 (1 : Fin 2) l (⟨256 * r.val + 2 * q.val, by omega⟩ : Fin 16384)))
    (x0 (ix3 (0 : Fin 2) l (⟨256 * r.val + (2 * q.val + 1), by omega⟩ : Fin 16384)))
    (x0 (ix3 (1 : Fin 2) l (⟨256 * r.val + (2 * q.val + 1), by omega⟩ : Fin 16384)))

theorem rowTile (x0 : Vec Ideal S2x16x16384 .i8) (l : Fin 16) (r : Fin 64) (q : Fin 128) (k : Fin 64) (x : S16x1x128.Idx)
    (h0 : l.val = 0 + (x 0 : ℕ)) (h1 : r.val = (rOf k).val + (x 1 : ℕ)) (h2 : q.val = 0 + (x 2 : ℕ)) :
    piece (rOf k) x0 x = blkWord x0 l r q := by
  have hx : (x 1 : ℕ) < 1 := (x 1).isLt
  have hr : r = rOf k := Fin.ext (by omega)
  have hl : l = x 0 := Fin.ext (by omega)
  have hq : q = x 2 := Fin.ext (by omega)
  have ex : x = ix3 (x 0) (0 : Fin 1) (x 2) := by
    funext a
    match a with
    | 0 => rfl
    | 1 => exact Fin.ext (by show (x 1 : ℕ) = 0; omega)
    | 2 => rfl
  rw [hr, hl, hq]
  exact (congrArg (piece (rOf k) x0) ex).trans (piece_at (rOf k) x0 (x 0) (x 2))

/-- The block that a grid point writes, at an index. -/
theorem out_at (x0 : Vec Ideal S2x16x16384 .i8) (l : Fin 16) (r : Fin 64) (q : Fin 128) :
    out0_1 x0 (ix3 l r q) = blkWord x0 l r q :=
  (congrFun (out_eq x0) (ix3 l r q)).trans
    (View.canon_ofFn_unit_eq_of_forall (Val := Elt Ideal) (S := S16x64x128) (e := .i32)
      (fun k : Fin 64 => ![0, (rOf k).val, 0]) S16x1x128.size (fun k => rowInb (rOf k))
      (fun k => piece (rOf k) x0) (ix3 l r q) (blkWord x0 l r q)
      (rowCover l r q) (fun k x hx => rowTile x0 l r q k x (hx 0) (hx 1) (hx 2)))

end Cert.PackIdeal.Packing

end
-- ==== Proof.PackFinal.lean ====
/- The array that the packing call leaves, the reference's array, and their equality. -/
module

public import proofs.«01_k».proof.Defs
public import proofs.«01_k».proof.Proof.PackStore
public import proofs.«01_k».proof.Proof.Gen.WordsIdeal.Run
public import Idealize.ShloMosaic.Lib.Pipeline.ValueKit

@[expose] public section

set_option maxRecDepth 16384

noncomputable section

/-- The word `k = 128 i + q` of a level, from the table: entries `2 k` and `2 k + 1`, two bytes each. -/
def Cert.tableWord (x : Idealize.ShloMosaic.IVec Cert.PackIdeal.S16x1048576x2 8) (l : Fin 16) (i : Fin 4096) (q : Fin 128) : BitVec 32 :=
  Cert.PackIdeal.Packing.wordOf
    (x (Idealize.ShloMosaic.ix3 l (⟨256 * i.val + 2 * q.val, by omega⟩ : Fin 1048576) (0 : Fin 2)))
    (x (Idealize.ShloMosaic.ix3 l (⟨256 * i.val + 2 * q.val, by omega⟩ : Fin 1048576) (1 : Fin 2)))
    (x (Idealize.ShloMosaic.ix3 l (⟨256 * i.val + (2 * q.val + 1), by omega⟩ : Fin 1048576) (0 : Fin 2)))
    (x (Idealize.ShloMosaic.ix3 l (⟨256 * i.val + (2 * q.val + 1), by omega⟩ : Fin 1048576) (1 : Fin 2)))

namespace Cert.WordsIdeal.Packing

open Idealize.ShloMosaic Cert.WordsIdeal Cert.WordsIdeal.Gen

/-- The reference's result, from its argument. -/
def words (x : IVec S16x1048576x2 8) : IVec S16x4096x128 32 :=
  ori (ori (ori (shapeCast _ (extractStridedSlice S16x4096x128x1 ![0, 0, 0, 0] (shapeCast _ (andi (extsi 32 x natLt_8_32) (broadcastInDim S16x1048576x2 ![] bcast_S_S16x1048576x2 (constantI S_ 32 255#32))) shapeCasts_S16x1048576x2_S16x4096x128x4) slices_S16x4096x128x4_S16x4096x128x1_0_0_0_0) shapeCasts_S16x4096x128x1_S16x4096x128) (Host.shli (shapeCast _ (extractStridedSlice S16x4096x128x1 ![0, 0, 0, 1] (shapeCast _ (andi (extsi 32 x natLt_8_32) (broadcastInDim S16x1048576x2 ![] bcast_S_S16x1048576x2 (constantI S_ 32 255#32))) shapeCasts_S16x1048576x2_S16x4096x128x4) slices_S16x4096x128x4_S16x4096x128x1_0_0_0_1) shapeCasts_S16x4096x128x1_S16x4096x128) (broadcastInDim S16x4096x128 ![] bcast_S_S16x4096x128 (constantI S_ 32 8#32)))) (Host.shli (shapeCast _ (extractStridedSlice S16x4096x128x1 ![0, 0, 0, 2] (shapeCast _ (andi (extsi 32 x natLt_8_32) (broadcastInDim S16x1048576x2 ![] bcast_S_S16x1048576x2 (constantI S_ 32 255#32))) shapeCasts_S16x1048576x2_S16x4096x128x4) slices_S16x4096x128x4_S16x4096x128x1_0_0_0_2) shapeCasts_S16x4096x128x1_S16x4096x128) (broadcastInDim S16x4096x128 ![] bcast_S_S16x4096x128 (constantI S_ 32 16#32)))) (Host.shli (shapeCast _ (extractStridedSlice S16x4096x128x1 ![0, 0, 0, 3] (shapeCast _ (andi (extsi 32 x natLt_8_32) (broadcastInDim S16x1048576x2 ![] bcast_S_S16x1048576x2 (constantI S_ 32 255#32))) shapeCasts_S16x1048576x2_S16x4096x128x4) slices_S16x4096x128x4_S16x4096x128x1_0_0_0_3) shapeCasts_S16x4096x128x1_S16x4096x128) (broadcastInDim S16x4096x128 ![] bcast_S_S16x4096x128 (constantI S_ 32 24#32)))

theorem words_at (x : IVec S16x1048576x2 8) (l : Fin 16) (i : Fin 4096) (q : Fin 128) :
    words x (ix3 l i q) = Cert.tableWord x l i q := by
  unfold words
  pointwise []
  have e0 : (⟨i.val * 256 + q.val * 2, by omega⟩ : Fin 1048576) = ⟨256 * i.val + 2 * q.val, by omega⟩ :=
    Fin.ext (by simp only; omega)
  have e1 : (⟨i.val * 256 + q.val * 2 + 1, by omega⟩ : Fin 1048576) = ⟨256 * i.val + (2 * q.val + 1), by omega⟩ :=
    Fin.ext (by simp only; omega)
  rw [e0, e1]
  rfl

end Cert.WordsIdeal.Packing

namespace Cert.PackIdeal.Packing

open Idealize.ShloMosaic Idealize.ShloMosaic.TcCoe Idealize.SL.Sem Cert.PackIdeal Cert.PackIdeal.Gen
open Idealize.ShloMosaic.Pipeline (Dat)

variable (m : (ℓ : Loc nD τ sig) → Buf (Elt Ideal) ℓ) (c : Dev nD) (ρ : Dev nD → PrngReg)

theorem idx : ∀ t : Fin cfg0.N, win0_0.index t = ![0, 0, t.val] ∧ win0_1.index t = ![0, t.val, 0] ∧ t.val < 64 :=
  (by decide +kernel : ∀ t : Fin grid0.N, _)

/-- The table, at its type. -/
def table : IVec S16x1048576x2 8 := m ((c : Thread nD τ).loc main_arg0)

theorem move_at (x : IVec S16x1048576x2 8) (f : Fin 2) (l : Fin 16) (e : Fin 1048576) :
    transpose S2x16x1048576 [2, 0, 1] x transposes_S16x1048576x2_S2x16x1048576_2_0_1 (ix3 f l e) = x (ix3 l e f) := by
  pointwise []

theorem v0_at (f : Fin 2) (l : Fin 16) (e : Fin 1048576) :
    (V m c main_v0 : IVec S2x16x1048576 8) (ix3 f l e) = table m c (ix3 l e f) := by
  simp only [V, hostOps0, List.flatten_cons, List.flatten_nil, List.append_nil, StableHlo.after_cons, StableHlo.after_nil]
  after_results_simp
  exact move_at (table m c) f l e

theorem read0 (t : Fin cfg0.N) (f : Fin 2) (l : Fin 16) (k : Fin 16384) :
    iblk m c 0 t (ix3 f l k) = (V m c main_v0 : IVec S2x16x1048576 8)
      (ix3 f l (⟨t.val * 16384 + k.val, by have := (idx t).2.2; omega⟩ : Fin 1048576)) := by
  blk_ext [iblk, idx t]

theorem read (t : Fin cfg0.N) (f : Fin 2) (l : Fin 16) (k : Fin 16384) (e : Fin 1048576) (h : e.val = t.val * 16384 + k.val) :
    iblk m c 0 t (ix3 f l k) = table m c (ix3 l e f) :=
  (read0 m c t f l k).trans ((v0_at m c f l _).trans (congrArg (fun e => table m c (ix3 l e f)) (Fin.ext h.symm)))

theorem wordOf_congr {a a' b b' c c' d d' : BitVec 8} (ha : a = a') (hb : b = b') (hc : c = c') (hd : d = d') :
    wordOf a b c d = wordOf a' b' c' d' := by
  rw [ha, hb, hc, hd]

theorem blk_word (t : Fin cfg0.N) (l : Fin 16) (r : Fin 64) (q : Fin 128) (i : Fin 4096) (h : i.val = t.val * 64 + r.val) :
    blkWord (iblk m c 0 t) l r q = Cert.tableWord (table m c) l i q :=
  wordOf_congr (read m c t _ l _ _ (by simp only; omega)) (read m c t _ l _ _ (by simp only; omega))
    (read m c t _ l _ _ (by simp only; omega)) (read m c t _ l _ _ (by simp only; omega))

theorem tableWord_congr (x : IVec S16x1048576x2 8) {l l' : Fin 16} {i i' : Fin 4096} {q q' : Fin 128}
    (hl : l = l') (hi : i = i') (hq : q = q') : Cert.tableWord x l i q = Cert.tableWord x l' i' q' := by
  rw [hl, hi, hq]

theorem word_point (t : Fin cfg0.N) (y : S16x64x128.Idx) (l : Fin 16) (i : Fin 4096) (q : Fin 128)
    (h0 : l.val = (y 0 : ℕ)) (h1 : i.val = t.val * 64 + (y 1 : ℕ)) (h2 : q.val = (y 2 : ℕ)) :
    out0_1 (iblk m c 0 t) y = Cert.tableWord (table m c) l i q := by
  have ey : y = ix3 (y 0) (y 1) (y 2) := by
    funext a
    match a with
    | 0 => rfl
    | 1 => rfl
    | 2 => rfl
  exact (congrArg (out0_1 (iblk m c 0 t)) ey).trans ((out_at _ (y 0) (y 1) (y 2)).trans
    ((blk_word m c t (y 0) (y 1) (y 2) i h1).trans (tableWord_congr _ (Fin.ext h0.symm) rfl (Fin.ext h2.symm))))

/-- The array the launch leaves. -/
def wordsV : IVec S16x4096x128 32 := fun i => Cert.tableWord (table m c) (i 0) (i 1) (i 2)

theorem wordsArr : (dats m 0 c).arrAt 1 (cfgs 0).N = wordsV m c := by
  refine (dats m 0 c).arrAt_eq_of_covers 1 _ (by decide +kernel) fun t hf y => ?_
  blk_simp
  rw [after0_1]
  refine word_point m c t y _ _ _ ?_ ?_ ?_
  all_goals (blk_simp [idx t] <;> try omega)

theorem run : θ_run defs (onTc (τ := τ) (main (F := Ideal))) ⟨m, fun _ => 0, ρ⟩ (fun r => ∀ c : Dev nD,
      r.2.mem ((c.tc : Thread nD τ).loc main_v1) = wordsV m c
      ∧ r.2.mem ((c.tc : Thread nD τ).loc main_arg0) = m ((c.tc : Thread nD τ).loc main_arg0)) :=
  (θ_run defs _ _).mono (fun r h c => ⟨((h.1 c).1 1).trans (wordsArr m c), h.2 c⟩)
    (θ_run_and (run_main m ρ) (unchanged m ρ))

theorem algebraic : Cert.algebraic_PackIdeal_WordsIdeal (hPackIdeal := Cert.PackIdeal.Gen.facts)
    (hWordsIdeal := Cert.WordsIdeal.Gen.facts) := by
  intro m g m' g' hpre hagree
  refine ⟨wordsV m, run m g, (θ_run Cert.WordsIdeal.defs _ _).mono (fun r h c => ?_) (Cert.WordsIdeal.Value.run m' g')⟩
  have a0 := hagree c
  refine ⟨(h c).1.trans ?_, (h c).2⟩
  rw [a0]
  show Cert.WordsIdeal.Packing.words (table m c) = wordsV m c
  funext i
  have ei : i = ix3 (i 0) (i 1) (i 2) := by
    funext a
    match a with
    | 0 => rfl
    | 1 => rfl
    | 2 => rfl
  exact (congrArg _ ei).trans (Cert.WordsIdeal.Packing.words_at (table m c) (i 0) (i 1) (i 2))

end Cert.PackIdeal.Packing

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pack
public import proofs.«01_k».proof.Proof.Gen.Pack.Skeleton
public import proofs.«01_k».proof.Proof.Gen.Pack.Launch
public import proofs.«01_k».proof.Proof.Gen.Pack.Points
public import proofs.«01_k».proof.Proof.Gen.Pack.Frame
public import proofs.«01_k».proof.Proof.Gen.PackIdeal
public import proofs.«01_k».proof.Proof.Gen.PackIdeal.Skeleton
public import proofs.«01_k».proof.Proof.Gen.PackIdeal.Launch
public import proofs.«01_k».proof.Proof.Gen.PackIdeal.Points
public import proofs.«01_k».proof.Proof.Gen.PackIdeal.Frame
public import proofs.«01_k».proof.Proof.Gen.WordsIdeal
public import proofs.«01_k».proof.Proof.Gen.WordsIdeal.Run
public import proofs.«01_k».proof.Proof.Final
public import proofs.«01_k».proof.Proof.PackFinal
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem preFacts : Cert.Pre_positions_tame.Facts := ⟨by decide⟩

theorem claim : Cert.Claim := ⟨Cert.Kernel.Gen.facts, Cert.KernelIdeal.Gen.facts, Cert.ReferenceIdeal.Gen.facts,
  Cert.Pack.Gen.facts, Cert.PackIdeal.Gen.facts, Cert.WordsIdeal.Gen.facts, preFacts,
  fun m ρ _ => Cert.Kernel.Gen.frame m ρ, fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2.2, Idealize.ShloMosaic.sem_eq_zero_of_no_sems (by decide) r.2⟩) (Cert.ReferenceIdeal.Value.run m ρ),
  fun m ρ _ => (θ_run Cert.ReferenceIdeal.defs _ _).mono
    (fun r h => ⟨fun c => (h c).2.2, Idealize.ShloMosaic.sem_eq_zero_of_no_sems (by decide) r.2⟩) (Cert.ReferenceIdeal.Value.run m ρ),
  fun m ρ _ => Cert.Pack.Gen.frame m ρ, fun m ρ _ => Cert.PackIdeal.Gen.frame m ρ,
  fun m ρ _ => (θ_run Cert.WordsIdeal.defs _ _).mono
    (fun r h => ⟨fun c => (h c).2, Idealize.ShloMosaic.sem_eq_zero_of_no_sems (by decide) r.2⟩) (Cert.WordsIdeal.Value.run m ρ),
  ⟨IdealRules.bf16_pair.packStatement _, IdealRules.bf16_pair.statement _ _⟩,
  Cert.Final.algebraic (hP := preFacts),
  trivial,
  Cert.PackIdeal.Packing.algebraic⟩

end Cert.Proof

end
